-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1536 : Shape := ⟨3, ![8, 2048, 1536]⟩
abbrev S24x24 : Shape := ⟨2, ![24, 24]⟩
abbrev S576x768 : Shape := ⟨2, ![576, 768]⟩
abbrev S576x12 : Shape := ⟨2, ![576, 12]⟩
abbrev S16384x1536 : Shape := ⟨2, ![16384, 1536]⟩
abbrev S16384x576 : Shape := ⟨2, ![16384, 576]⟩
abbrev S32x1x512 : Shape := ⟨3, ![32, 1, 512]⟩
abbrev S512x1536 : Shape := ⟨2, ![512, 1536]⟩
abbrev S512x576 : Shape := ⟨2, ![512, 576]⟩
abbrev S1x1x512 : Shape := ⟨3, ![1, 1, 512]⟩
abbrev S192x192 : Shape := ⟨2, ![192, 192]⟩
abbrev S576x1536 : Shape := ⟨2, ![576, 1536]⟩
abbrev S1536x512 : Shape := ⟨2, ![1536, 512]⟩
abbrev S8x192x512 : Shape := ⟨3, ![8, 192, 512]⟩
abbrev S192x24 : Shape := ⟨2, ![192, 24]⟩
abbrev S24x192 : Shape := ⟨2, ![24, 192]⟩
abbrev S576x128 : Shape := ⟨2, ![576, 128]⟩
abbrev S576x1 : Shape := ⟨2, ![576, 1]⟩
abbrev S512x128 : Shape := ⟨2, ![512, 128]⟩
abbrev S128x512 : Shape := ⟨2, ![128, 512]⟩
abbrev S8x512 : Shape := ⟨2, ![8, 512]⟩
abbrev S192x512 : Shape := ⟨2, ![192, 512]⟩
abbrev S1x192x512 : Shape := ⟨3, ![1, 192, 512]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1x1x128 : Shape := ⟨3, ![1, 1, 128]⟩
abbrev S16x128 : Shape := ⟨2, ![16, 128]⟩
abbrev S576x512 : Shape := ⟨2, ![576, 512]⟩
abbrev S1x512 : Shape := ⟨2, ![1, 512]⟩
abbrev S8x2048x576 : Shape := ⟨3, ![8, 2048, 576]⟩
abbrev S8x2048 : Shape := ⟨2, ![8, 2048]⟩

abbrev nBuf : Space → Nat
  | .hbm => 11
  | .vmem => 16
  | .smem => 0
  | _ => 0

abbrev bufTy : (tb : Table) → Fin (tcTables nBuf tb) → BufTy
  | .hbm, ⟨0, _⟩ => ⟨S8x2048x1536, .bf16⟩
  | .hbm, ⟨1, _⟩ => ⟨S24x24, .f32⟩
  | .hbm, ⟨2, _⟩ => ⟨S576x768, .i8⟩
  | .hbm, ⟨3, _⟩ => ⟨S576x12, .f32⟩
  | .hbm, ⟨4, _⟩ => ⟨S16384x1536, .bf16⟩
  | .hbm, ⟨5, _⟩ => ⟨S16384x576, .bf16⟩
  | .hbm, ⟨6, _⟩ => ⟨S16384x1536, .i8⟩
  | .hbm, ⟨7, _⟩ => ⟨S32x1x512, .f32⟩
  | .hbm, ⟨8, _⟩ => ⟨S8x2048x576, .bf16⟩
  | .hbm, ⟨9, _⟩ => ⟨S8x2048x1536, .i8⟩
  | .hbm, ⟨10, _⟩ => ⟨S8x2048, .f32⟩
  | .local _ .vmem, ⟨0, _⟩ => ⟨S512x1536, .bf16⟩
  | .local _ .vmem, ⟨1, _⟩ => ⟨S512x1536, .bf16⟩
  | .local _ .vmem, ⟨2, _⟩ => ⟨S24x24, .f32⟩
  | .local _ .vmem, ⟨3, _⟩ => ⟨S576x768, .i8⟩
  | .local _ .vmem, ⟨4, _⟩ => ⟨S576x12, .f32⟩
  | .local _ .vmem, ⟨5, _⟩ => ⟨S512x576, .bf16⟩
  | .local _ .vmem, ⟨6, _⟩ => ⟨S512x576, .bf16⟩
  | .local _ .vmem, ⟨7, _⟩ => ⟨S512x1536, .i8⟩
  | .local _ .vmem, ⟨8, _⟩ => ⟨S512x1536, .i8⟩
  | .local _ .vmem, ⟨9, _⟩ => ⟨S1x1x512, .f32⟩
  | .local _ .vmem, ⟨10, _⟩ => ⟨S1x1x512, .f32⟩
  | .local _ .vmem, ⟨11, _⟩ => ⟨S192x192, .bf16⟩
  | .local _ .vmem, ⟨12, _⟩ => ⟨S576x1536, .bf16⟩
  | .local _ .vmem, ⟨13, _⟩ => ⟨S1536x512, .f32⟩
  | .local _ .vmem, ⟨14, _⟩ => ⟨S8x192x512, .f32⟩
  | .local _ .vmem, ⟨15, _⟩ => ⟨S1536x512, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x576 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x1536 : Shape := ⟨3, ![8, 2048, 1536]⟩
abbrev S24x24 : Shape := ⟨2, ![24, 24]⟩
abbrev S576x768 : Shape := ⟨2, ![576, 768]⟩
abbrev S576x12 : Shape := ⟨2, ![576, 12]⟩
abbrev S8x2048x24x64 : Shape := ⟨4, ![8, 2048, 24, 64]⟩
abbrev S64x64 : Shape := ⟨2, ![64, 64]⟩
abbrev S_ : Shape := ⟨0, ![]⟩
abbrev S8x2048x64x24 : Shape := ⟨4, ![8, 2048, 64, 24]⟩
abbrev S8x2048x576 : Shape := ⟨3, ![8, 2048, 576]⟩
abbrev S8x2048 : Shape := ⟨2, ![8, 2048]⟩
abbrev S8x2048x1 : Shape := ⟨3, ![8, 2048, 1]⟩
abbrev S8x2048x768 : Shape := ⟨3, ![8, 2048, 768]⟩
abbrev S576x6 : Shape := ⟨2, ![576, 6]⟩
abbrev S576x6x128 : Shape := ⟨3, ![576, 6, 128]⟩
abbrev S576x6x1 : Shape := ⟨3, ![576, 6, 1]⟩

abbrev nBuf : Space → Nat
  | .hbm => 30
  | .vmem => 6
  | .smem => 0
  | _ => 0

abbrev bufTy : (tb : Table) → Fin (tcTables nBuf tb) → BufTy
  | .hbm, ⟨0, _⟩ => ⟨S8x2048x1536, .bf16⟩
  | .hbm, ⟨1, _⟩ => ⟨S24x24, .f32⟩
  | .hbm, ⟨2, _⟩ => ⟨S576x768, .i8⟩
  | .hbm, ⟨3, _⟩ => ⟨S576x12, .f32⟩
  | .hbm, ⟨4, _⟩ => ⟨S8x2048x1536, .f32⟩
  | .hbm, ⟨5, _⟩ => ⟨S8x2048x24x64, .f32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .f32⟩
  | .hbm, ⟨20, _⟩ => ⟨S8x2048x24x64, .f32⟩
  | .hbm, ⟨21, _⟩ => ⟨S8x2048x64x24, .f32⟩
  | .hbm, ⟨22, _⟩ => ⟨S8x2048x24x64, .f32⟩
  | .hbm, ⟨23, _⟩ => ⟨S_, .f32⟩
  | .hbm, ⟨24, _⟩ => ⟨S8x2048x24x64, .f32⟩
  | .hbm, ⟨25, _⟩ => ⟨S8x2048x24x64, .f32⟩
  | .hbm, ⟨26, _⟩ => ⟨S8x2048x1536, .f32⟩
  | .hbm, ⟨27, _⟩ => ⟨S8x2048x576, .bf16⟩
  | .hbm, ⟨28, _⟩ => ⟨S8x2048x1536, .i8⟩
  | .hbm, ⟨29, _⟩ => ⟨S8x2048, .f32⟩
  | .local _ .vmem, ⟨0, _⟩ => ⟨S8x2048x1536, .f32⟩
  | .local _ .vmem, ⟨1, _⟩ => ⟨S576x768, .i8⟩
  | .local _ .vmem, ⟨2, _⟩ => ⟨S576x12, .f32⟩
  | .local _ .vmem, ⟨3, _⟩ => ⟨S8x2048x576, .bf16⟩
  | .local _ .vmem, ⟨4, _⟩ => ⟨S8x2048x1536, .i8⟩
  | .local _ .vmem, ⟨5, _⟩ => ⟨S8x2048, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rolled.lean ====
/- The kernel's body written with loops. The printed body repeats the same few operations many times over
   (twelve transposed column blocks, eight slab products, four token blocks of twenty-four butterflies each,
   twelve code transposes); here each repetition is one function of its position, and the body is the loops over
   those positions. `body_eq`: the printed body is this one. -/
module

public import proofs.«01_k».proof.Proof.Gen.KernelIdeal
public import Idealize.ShloMosaic.Lib.VecWindow
public import Idealize.ShloMosaic.Lib.Tactic

@[expose] public section

noncomputable section

namespace Cert.KernelIdeal.Rolled

open Idealize.ShloMosaic Idealize.SL.Sem
open Cert.KernelIdeal

variable {F : FTy → Type} [FloatOps F]

/-- A program of the kernel's body. -/
abbrev Pr (F : FTy → Type) [FloatOps F] [Facts₀] [Facts] (α : Type) := Prog (TpuEff nD τ sig (Elt F) Λ₀ .tc) α

variable [Facts₀] [Facts]

/-! ## Loads, stores and loops -/

/-- The load of the block of sizes `size` at offsets `off`. -/
def ld {s : Shape} {e : EltTy} (a : Memref sig .tc .vmem s e) (off size : Fin s.rank → ℕ)
    (inb : ∀ x, off x + size x ≤ s.size x) (hp : 0 < (⟨s.rank, size⟩ : Shape).numel) :
    Pr F (Vec F ⟨s.rank, size⟩ e) :=
  Prog.lift (.load a (Rect.unit (s := s) off size inb).toLoadRect (View.loadsAt_vmem hp))

/-- The store of a value over the block of sizes `size` at offsets `off`. -/
def st {s : Shape} {e : EltTy} (a : Memref sig .tc .vmem s e) (off size : Fin s.rank → ℕ)
    (inb : ∀ x, off x + size x ≤ s.size x) (w : Vec F ⟨s.rank, size⟩ e)
    (hx : (a.access (Rect.unit (s := s) off size inb)).Stores Finset.univ) : Pr F PUnit.{1} :=
  Prog.lift (.store a (Rect.unit (s := s) off size inb) w Finset.univ hx (.inl rfl))

/-- The positions `k, k + 1, …, N - 1` in order, a value threaded through. -/
def loop {α : Type} {N : ℕ} (f : Fin N → α → Pr F α) : (n k : ℕ) → k + n = N → α → Pr F α
  | 0, _, _, a => .ret a
  | n + 1, k, h, a => (f ⟨k, by omega⟩ a).bind (loop f n (k + 1) (by omega))

/-- All the positions below `N` in order. -/
abbrev loopN {α : Type} (N : ℕ) (f : Fin N → α → Pr F α) (a : α) : Pr F α := loop f N 0 (Nat.zero_add N) a

/-- A rectangle is in bounds if it is on each of two axes. -/
theorem inb2 {d off size : Fin 2 → ℕ} (h0 : off 0 + size 0 ≤ d 0) (h1 : off 1 + size 1 ≤ d 1) :
    ∀ a, off a + size a ≤ (⟨2, d⟩ : Shape).size a := by
  intro a; match a with
  | ⟨0, _⟩ => exact h0
  | ⟨1, _⟩ => exact h1

/-- A rectangle is in bounds if it is on each of three axes. -/
theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a := by
  intro a; match a with
  | ⟨0, _⟩ => exact h0
  | ⟨1, _⟩ => exact h1
  | ⟨2, _⟩ => exact h2

/-- A block of consecutive rows that start at a multiple of the packing and number a multiple of it is packed rows. -/
theorem packed2 {d off size : Fin 2 → ℕ} {inb : ∀ a, off a + size a ≤ (⟨2, d⟩ : Shape).size a} {p : ℕ} (h0 : p ∣ off 0) (h1 : p ∣ size 0) :
    (Rect.unit (s := ⟨2, d⟩) off size inb).PackedRows p :=
  .inr ⟨le_rfl, rfl, .inl ⟨h0, h1⟩⟩

open Shapes1.Facts₀ Shapes2.Facts₀

/-! ## The first grid point: the rotation matrix and the weights -/

/-- Row `r`, column `j` is one where `r / 8 = j`, else zero. -/
def ejVal : FVec F S192x24 .f32 :=
  let v17378 : IVec S192x24 32 := iota .tc S192x24 32 [0] iota_S192x24_d0_w32
  let v17379 : IVec S192x24 32 := iota .tc S192x24 32 [1] iota_S192x24_d1_w32
  let c8_i32 : BitVec 32 := 8#32
  let v17380 : IVec S192x24 32 := broadcast S192x24 c8_i32
  let v17381 : IVec S192x24 32 := divsi v17378 v17380
  let c0_i32_9579 : BitVec 32 := 0#32
  let v17382 : IVec S192x24 32 := broadcast S192x24 c0_i32_9579
  let v17383 : IVec S192x24 1 := cmpi .sgt v17378 v17382
  let v17384 : IVec S192x24 32 := extui 32 v17383 natLt_1_32
  let c0_i32_9580 : BitVec 32 := 0#32
  let v17385 : IVec S192x24 32 := broadcast S192x24 c0_i32_9580
  let v17386 : IVec S192x24 1 := cmpi .slt v17378 v17385
  let v17387 : IVec S192x24 32 := extui 32 v17386 natLt_1_32
  let v17388 : IVec S192x24 32 := subi v17384 v17387
  let c0_i32_9581 : BitVec 32 := 0#32
  let v17389 : BitVec 1 := Scalar.cmpi .sgt c8_i32 c0_i32_9581
  let v17390 : BitVec 32 := Scalar.extui v17389
  let c0_i32_9582 : BitVec 32 := 0#32
  let v17391 : BitVec 1 := Scalar.cmpi .slt c8_i32 c0_i32_9582
  let v17392 : BitVec 32 := Scalar.extui v17391
  let v17393 : BitVec 32 := Scalar.subi v17390 v17392
  let v17394 : IVec S192x24 32 := broadcast S192x24 v17393
  let v17395 : IVec S192x24 1 := cmpi .ne v17388 v17394
  let v17396 : IVec S192x24 32 := broadcast S192x24 c8_i32
  let v17397 : IVec S192x24 32 := remsi v17378 v17396
  let c0_i32_9583 : BitVec 32 := 0#32
  let v17398 : IVec S192x24 32 := broadcast S192x24 c0_i32_9583
  let v17399 : IVec S192x24 1 := cmpi .ne v17397 v17398
  let v17400 : IVec S192x24 1 := andi v17395 v17399
  let c1_i32 : BitVec 32 := 1#32
  let v17401 : IVec S192x24 32 := broadcast S192x24 c1_i32
  let v17402 : IVec S192x24 32 := subi v17381 v17401
  let v17403 : IVec S192x24 32 := select v17400 v17402 v17381
  let v17404 : IVec S192x24 1 := cmpi .eq v17403 v17379
  let v17405 : IVec S192x24 32 := extui 32 v17404 natLt_1_32
  let v17406 : FVec F S192x24 .f32 := sitofp .f32 v17405
  v17406

/-- Row `k`, column `c` is one where `c / 8 = k`, else zero. -/
def ekVal : FVec F S24x192 .f32 :=
  let v17407 : IVec S24x192 32 := iota .tc S24x192 32 [0] iota_S24x192_d0_w32
  let v17408 : IVec S24x192 32 := iota .tc S24x192 32 [1] iota_S24x192_d1_w32
  let c8_i32_9584 : BitVec 32 := 8#32
  let v17409 : IVec S24x192 32 := broadcast S24x192 c8_i32_9584
  let v17410 : IVec S24x192 32 := divsi v17408 v17409
  let c0_i32_9585 : BitVec 32 := 0#32
  let v17411 : IVec S24x192 32 := broadcast S24x192 c0_i32_9585
  let v17412 : IVec S24x192 1 := cmpi .sgt v17408 v17411
  let v17413 : IVec S24x192 32 := extui 32 v17412 natLt_1_32
  let c0_i32_9586 : BitVec 32 := 0#32
  let v17414 : IVec S24x192 32 := broadcast S24x192 c0_i32_9586
  let v17415 : IVec S24x192 1 := cmpi .slt v17408 v17414
  let v17416 : IVec S24x192 32 := extui 32 v17415 natLt_1_32
  let v17417 : IVec S24x192 32 := subi v17413 v17416
  let c0_i32_9587 : BitVec 32 := 0#32
  let v17418 : BitVec 1 := Scalar.cmpi .sgt c8_i32_9584 c0_i32_9587
  let v17419 : BitVec 32 := Scalar.extui v17418
  let c0_i32_9588 : BitVec 32 := 0#32
  let v17420 : BitVec 1 := Scalar.cmpi .slt c8_i32_9584 c0_i32_9588
  let v17421 : BitVec 32 := Scalar.extui v17420
  let v17422 : BitVec 32 := Scalar.subi v17419 v17421
  let v17423 : IVec S24x192 32 := broadcast S24x192 v17422
  let v17424 : IVec S24x192 1 := cmpi .ne v17417 v17423
  let v17425 : IVec S24x192 32 := broadcast S24x192 c8_i32_9584
  let v17426 : IVec S24x192 32 := remsi v17408 v17425
  let c0_i32_9589 : BitVec 32 := 0#32
  let v17427 : IVec S24x192 32 := broadcast S24x192 c0_i32_9589
  let v17428 : IVec S24x192 1 := cmpi .ne v17426 v17427
  let v17429 : IVec S24x192 1 := andi v17424 v17428
  let c1_i32_9590 : BitVec 32 := 1#32
  let v17430 : IVec S24x192 32 := broadcast S24x192 c1_i32_9590
  let v17431 : IVec S24x192 32 := subi v17410 v17430
  let v17432 : IVec S24x192 32 := select v17429 v17431 v17410
  let v17433 : IVec S24x192 1 := cmpi .eq v17432 v17407
  let v17434 : IVec S24x192 32 := extui 32 v17433 natLt_1_32
  let v17435 : FVec F S24x192 .f32 := sitofp .f32 v17434
  v17435

/-- Row `r`, column `c` is `1` or `-1`: the parity of the bits common to `r % 8` and `c % 8`. -/
def signVal : FVec F S192x192 .f32 :=
  let v17439 : IVec S192x192 32 := iota .tc S192x192 32 [0] iota_S192x192_d0_w32
  let v17440 : IVec S192x192 32 := iota .tc S192x192 32 [1] iota_S192x192_d1_w32
  let c7_i32_9595 : BitVec 32 := 7#32
  let v17441 : IVec S192x192 32 := broadcast S192x192 c7_i32_9595
  let v17442 : IVec S192x192 32 := andi v17439 v17441
  let c7_i32_9596 : BitVec 32 := 7#32
  let v17443 : IVec S192x192 32 := broadcast S192x192 c7_i32_9596
  let v17444 : IVec S192x192 32 := andi v17440 v17443
  let v17445 : IVec S192x192 32 := andi v17442 v17444
  let v17446 : IVec S192x192 32 := ctpop v17445
  let c1_i32_9597 : BitVec 32 := 1#32
  let v17447 : IVec S192x192 32 := broadcast S192x192 c1_i32_9597
  let v17448 : IVec S192x192 32 := andi v17446 v17447
  let c2_i32 : BitVec 32 := 2#32
  let v17449 : IVec S192x192 32 := broadcast S192x192 c2_i32
  let v17450 : IVec S192x192 32 := muli v17449 v17448
  let c1_i32_9598 : BitVec 32 := 1#32
  let v17451 : IVec S192x192 32 := broadcast S192x192 c1_i32_9598
  let v17452 : IVec S192x192 32 := subi v17451 v17450
  let v17453 : FVec F S192x192 .f32 := sitofp .f32 v17452
  v17453

/-- The rotation matrix stored: `had` spread over 8 by 8 blocks, times the signs. -/
def rotVal (had : FVec F S24x24 .f32) : FVec F S192x192 .bf16 :=
  shapeCast S192x192 (truncf .bf16 (mulf (matmul dot_S192x24_S24x192_S192x192_1_0_0_1_n_n none ejVal
    (matmul dot_S24x24_S24x192_S24x192_1_0_0_1_n_n none had ekVal (constant S24x192 .f32 0x00000000#32))
    (constant S192x192 .f32 0x00000000#32)) signVal) bitsLt_bf16_f32) shapeCasts_S192x192_S192x192

/-- A block of nibbles, each read as a signed four-bit number and scaled by its row's scale. -/
def wBlock (nib : IVec S576x128 32) (sc : FVec F S576x1 .f32) : FVec F S576x128 .bf16 :=
  shapeCast S576x128 (truncf .bf16 (mulf (sitofp .f32 (select (cmpi .sge nib (broadcast S576x128 8#32)) (subi nib (broadcast S576x128 16#32)) nib))
    (broadcastTo S576x128 sc broadcasts_S576x1_S576x128)) bitsLt_bf16_f32) shapeCasts_S576x128_S576x128

/-- A group of packed weight columns is in bounds. -/
theorem slicesW (g : Fin 6) : S576x768.Slices ![0, 128 * g.val] S576x128 :=
  ⟨rfl, inb2 (by show 0 + 576 ≤ 576; omega) (by show 128 * g.val + 128 ≤ 768; omega)⟩

/-- A column of weight scales is in bounds. -/
theorem slicesS (g : Fin 12) : S576x12.Slices ![0, g.val] S576x1 :=
  ⟨rfl, inb2 (by show 0 + 576 ≤ 576; omega) (by show g.val + 1 ≤ 12; omega)⟩

/-- The low nibbles of the block `g` of packed weights. -/
def lowNib (wp : IVec S576x768 32) (g : Fin 6) : IVec S576x128 32 :=
  andi (extractStridedSlice S576x128 ![0, 128 * g.val] wp (slicesW g)) (broadcast S576x128 15#32)

/-- The high nibbles of the block `g` of packed weights. -/
def highNib (wp : IVec S576x768 32) (g : Fin 6) : IVec S576x128 32 :=
  andi (shrsi (extractStridedSlice S576x128 ![0, 128 * g.val] wp (slicesW g)) (broadcast S576x128 4#32)) (broadcast S576x128 15#32)

/-- The column `g` of the weight scales. -/
def scaleCol (ws : FVec F S576x12 .f32) (g : Fin 12) : FVec F S576x1 .f32 :=
  extractStridedSlice S576x1 ![0, g.val] ws (slicesS g)

/-- A group of weight columns is in bounds. -/
theorem inbW (g : Fin 12) : ∀ a, (![0, 128 * g.val] : Fin 2 → ℕ) a + S576x128.size a ≤ S576x1536.size a :=
  inb2 (by show 0 + 576 ≤ 576; omega) (by show 128 * g.val + 128 ≤ 1536; omega)

/-- Storing the weights' block `g`. -/
def stW (arg9 : Memref sig .tc .vmem S576x1536 .bf16) (harg9 : arg9.IsWhole) (g : Fin 12) (w : FVec F S576x128 .bf16) : Pr F PUnit.{1} := do
  let _ ← ld (F := F) arg9 ![0, 128 * g.val] S576x128.size (inbW g) h_S576x128
  st arg9 ![0, 128 * g.val] S576x128.size (inbW g) w
    (View.stores_vmem h_S576x128 (harg9.storeExact_slice rfl _ (packed2 ⟨0, rfl⟩ ⟨288, rfl⟩)) (fun _ => rfl))

/-- What the first grid point prepares. -/
def prep (arg2 : Memref sig .tc .vmem S24x24 .f32) (arg3 : Memref sig .tc .vmem S576x768 .i8) (arg4 : Memref sig .tc .vmem S576x12 .f32)
    (arg8 : Memref sig .tc .vmem S192x192 .bf16) (harg8 : arg8.IsWhole) (arg9 : Memref sig .tc .vmem S576x1536 .bf16) (harg9 : arg9.IsWhole) : Pr F PUnit.{1} := do
  let had ← ld (F := F) arg2 ![0, 0] S24x24.size inb_S24x24_S24x24_0_0 h_S24x24
  let _ ← ld (F := F) arg8 ![0, 0] S192x192.size inb_S192x192_S192x192_0_0 h_S192x192
  st arg8 ![0, 0] S192x192.size inb_S192x192_S192x192_0_0 (rotVal had)
    (View.stores_vmem h_S192x192 (harg8.storeExact_slice rfl _ packedbf16_S192x192_S192x192_0_0) (fun _ => rfl))
  let wp8 ← ld (F := F) arg3 ![0, 0] S576x768.size inb_S576x768_S576x768_0_0 h_S576x768
  let ws32 ← ld (F := F) arg4 ![0, 0] S576x12.size inb_S576x12_S576x12_0_0 h_S576x12
  loopN 6 (fun g _ => stW arg9 harg9 ⟨g.val, by omega⟩
    (wBlock (lowNib (extui 32 wp8 natLt_8_32) g) (scaleCol (extf .f32 (truncf .bf16 ws32 bitsLt_bf16_f32) bitsLt_bf16_f32) ⟨g.val, by omega⟩))) ⟨⟩
  loopN 6 (fun g _ => stW arg9 harg9 ⟨g.val + 6, by omega⟩
    (wBlock (highNib (extui 32 wp8 natLt_8_32) g) (scaleCol (extf .f32 (truncf .bf16 ws32 bitsLt_bf16_f32) bitsLt_bf16_f32) ⟨g.val + 6, by omega⟩))) ⟨⟩

/-! ## The tokens, transposed -/

/-- A group of activation columns is in bounds. -/
theorem inbX (g : Fin 12) : ∀ a, (![0, 128 * g.val] : Fin 2 → ℕ) a + S512x128.size a ≤ S512x1536.size a :=
  inb2 (by show 0 + 512 ≤ 512; omega) (by show 128 * g.val + 128 ≤ 1536; omega)

/-- A group of transposed rows is in bounds. -/
theorem inbXt (g : Fin 12) : ∀ a, (![128 * g.val, 0] : Fin 2 → ℕ) a + S128x512.size a ≤ S1536x512.size a :=
  inb2 (by show 128 * g.val + 128 ≤ 1536; omega) (by show 0 + 512 ≤ 512; omega)

/-- A block of channels of the tokens, transposed. -/
def xtVal (x : FVec F S512x128 .bf16) : FVec F S128x512 .f32 :=
  shapeCast S128x512 (extf .f32 (transpose S128x512 [1, 0] (shapeCast S512x128 x shapeCasts_S512x128_S512x128)
    transposes_S512x128_p1_0_S128x512) bitsLt_bf16_f32) shapeCasts_S128x512_S128x512

/-- The transpose of the channels' block `g`. -/
def xtStep (arg1 : Memref sig .tc .vmem S512x1536 .bf16) (arg10 : Memref sig .tc .vmem S1536x512 .f32) (g : Fin 12) (_ : PUnit.{1}) : Pr F PUnit.{1} := do
  let x ← ld (F := F) arg1 ![0, 128 * g.val] S512x128.size (inbX g) h_S512x128
  let _ ← ld (F := F) arg10 ![128 * g.val, 0] S128x512.size (inbXt g) h_S128x512
  st arg10 ![128 * g.val, 0] S128x512.size (inbXt g) (xtVal x) (View.stores_vmem_bits_univ h_S128x512 rfl)

/-! ## The slab products -/

/-- Eight rows of a slab are in bounds of the transposed activations. -/
theorem inbSlab (t : Fin 8) (k : Fin 24) : ∀ a, (![64 * k.val + 8 * t.val, 0] : Fin 2 → ℕ) a + S8x512.size a ≤ S1536x512.size a :=
  inb2 (by show 64 * k.val + 8 * t.val + 8 ≤ 1536; omega) (by show 0 + 512 ≤ 512; omega)

/-- The eight channels `8 t, …, 8 t + 7` of the group `k` of 64. -/
def slabLoad (arg10 : Memref sig .tc .vmem S1536x512 .f32) (t : Fin 8) (k : Fin 24) : Pr F (FVec F S8x512 .f32) :=
  ld (F := F) arg10 ![64 * k.val + 8 * t.val, 0] S8x512.size (inbSlab t k) h_S8x512

/-- One slab times the rotation matrix. -/
def mmVal (rot : FVec F S192x192 .bf16) (v : Fin 24 → FVec F S8x512 .f32) : FVec F S1x192x512 .f32 :=
  shapeCast S1x192x512 (matmul dot_S192x192_S192x512_S192x512_1_0_0_1_n_n none rot
    (truncf .bf16 (concatenate S192x512 0 [⟨S8x512, v 0⟩, ⟨S8x512, v 1⟩, ⟨S8x512, v 2⟩, ⟨S8x512, v 3⟩, ⟨S8x512, v 4⟩, ⟨S8x512, v 5⟩, ⟨S8x512, v 6⟩, ⟨S8x512, v 7⟩, ⟨S8x512, v 8⟩, ⟨S8x512, v 9⟩, ⟨S8x512, v 10⟩, ⟨S8x512, v 11⟩, ⟨S8x512, v 12⟩, ⟨S8x512, v 13⟩, ⟨S8x512, v 14⟩, ⟨S8x512, v 15⟩, ⟨S8x512, v 16⟩, ⟨S8x512, v 17⟩, ⟨S8x512, v 18⟩, ⟨S8x512, v 19⟩, ⟨S8x512, v 20⟩, ⟨S8x512, v 21⟩, ⟨S8x512, v 22⟩, ⟨S8x512, v 23⟩]
      concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0) bitsLt_bf16_f32) (constant S192x512 .f32 0x00000000#32)) shapeCasts_S192x512_S1x192x512

/-- A slab is in bounds. -/
theorem inbU (t : Fin 8) : ∀ a, (![t.val, 0, 0] : Fin 3 → ℕ) a + S1x192x512.size a ≤ S8x192x512.size a :=
  inb3 (by show t.val + 1 ≤ 8; omega) (by show 0 + 192 ≤ 192; omega) (by show 0 + 512 ≤ 512; omega)

/-- The values the program leaves at the positions below `N`, in order. -/
def gather {α : Type} : (N : ℕ) → (Fin N → Pr F α) → Pr F (Fin N → α)
  | 0, _ => .ret Fin.elim0
  | N + 1, f => (f 0).bind fun a => (gather N fun k => f k.succ).bind fun v => .ret (Fin.cons a v)

/-- The product of the slab `t`. -/
def mmStep (arg10 : Memref sig .tc .vmem S1536x512 .f32) (arg11 : Memref sig .tc .vmem S8x192x512 .f32) (rot : FVec F S192x192 .bf16) (t : Fin 8) (_ : PUnit.{1}) : Pr F PUnit.{1} := do
  let v ← gather (F := F) 24 (slabLoad arg10 t)
  let _ ← ld (F := F) arg11 ![t.val, 0, 0] S1x192x512.size (inbU t) h_S1x192x512
  st arg11 ![t.val, 0, 0] S1x192x512.size (inbU t) (mmVal rot v) (View.stores_vmem_bits_univ h_S1x192x512 rfl)

/-! ## The butterflies -/

/-- Eight rows and 128 columns of a slab are in bounds. -/
theorem inbR (t : Fin 8) (j : Fin 24) (b : Fin 4) : ∀ a, (![t.val, 8 * j.val, 128 * b.val] : Fin 3 → ℕ) a + S1x8x128.size a ≤ S8x192x512.size a :=
  inb3 (by show t.val + 1 ≤ 8; omega) (by show 8 * j.val + 8 ≤ 192; omega) (by show 128 * b.val + 128 ≤ 512; omega)

/-- The block of the slab `t` at the group `j` and the tokens' block `b`. -/
def rowLoad (arg11 : Memref sig .tc .vmem S8x192x512 .f32) (j : Fin 24) (b : Fin 4) (t : Fin 8) : Pr F (FVec F S8x128 .f32) := do
  let v ← ld (F := F) arg11 ![t.val, 8 * j.val, 128 * b.val] S1x8x128.size (inbR t j b) h_S1x8x128
  pure (shapeCast S8x128 v shapeCasts_S1x8x128_S8x128)

/-- Sums and differences of the slabs one apart. -/
def stage1 (v : Fin 8 → FVec F S8x128 .f32) : Fin 8 → FVec F S8x128 .f32 :=
  ![addf (v 0) (v 1), subf (v 0) (v 1), addf (v 2) (v 3), subf (v 2) (v 3), addf (v 4) (v 5), subf (v 4) (v 5), addf (v 6) (v 7), subf (v 6) (v 7)]

/-- Sums and differences of the slabs two apart. -/
def stage2 (v : Fin 8 → FVec F S8x128 .f32) : Fin 8 → FVec F S8x128 .f32 :=
  ![addf (v 0) (v 2), addf (v 1) (v 3), subf (v 0) (v 2), subf (v 1) (v 3), addf (v 4) (v 6), addf (v 5) (v 7), subf (v 4) (v 6), subf (v 5) (v 7)]

/-- Sums and differences of the slabs four apart. -/
def stage4 (v : Fin 8 → FVec F S8x128 .f32) : Fin 8 → FVec F S8x128 .f32 :=
  ![addf (v 0) (v 4), addf (v 1) (v 5), addf (v 2) (v 6), addf (v 3) (v 7), subf (v 0) (v 4), subf (v 1) (v 5), subf (v 2) (v 6), subf (v 3) (v 7)]

/-- The transform of the eight slabs. -/
def wht (v : Fin 8 → FVec F S8x128 .f32) : Fin 8 → FVec F S8x128 .f32 := stage4 (stage2 (stage1 v))

/-- Storing the block of the slab `t`, and the greatest magnitude so far. -/
def rowStore (arg11 : Memref sig .tc .vmem S8x192x512 .f32) (j : Fin 24) (b : Fin 4) (w : Fin 8 → FVec F S8x128 .f32)
    (t : Fin 8) (m : FVec F S8x128 .f32) : Pr F (FVec F S8x128 .f32) := do
  let _ ← ld (F := F) arg11 ![t.val, 8 * j.val, 128 * b.val] S1x8x128.size (inbR t j b) h_S1x8x128
  st arg11 ![t.val, 8 * j.val, 128 * b.val] S1x8x128.size (inbR t j b) (shapeCast S1x8x128 (w t) shapeCasts_S8x128_S1x8x128)
    (View.stores_vmem_bits_univ h_S1x8x128 rfl)
  pure (maximumf m (absf (w t)))

/-- The transform of the group `j` of the tokens' block `b`. -/
def whtStep (arg11 : Memref sig .tc .vmem S8x192x512 .f32) (b : Fin 4) (j : Fin 24) (m : FVec F S8x128 .f32) : Pr F (FVec F S8x128 .f32) := do
  let v ← gather (F := F) 8 (rowLoad arg11 j b)
  loopN 8 (rowStore arg11 j b (wht v)) m

/-! ## The scale and the codes -/

/-- The scale of each token, from the greatest magnitudes of its eight rows. -/
def scaleVal (m : FVec F S8x128 .f32) : FVec F S1x128 .f32 :=
  let a := mulf (shapeCast S1x128 (multiReduction .maximumf [0] S128 m 0xFF800000#32 reduces_S8x128_S128 (.inl rfl) rfl) shapeCasts_S128_S1x128)
    (broadcast S1x128 (Scalar.ofBits .f32 0x3CD105EC#32))
  select (cmpf .oeq a (broadcast S1x128 (Scalar.ofBits .f32 0x00000000#32))) (broadcast S1x128 (Scalar.ofBits .f32 0x3F800000#32))
    (divf a (broadcast S1x128 (Scalar.ofBits .f32 0x40E00000#32)))

/-- What each rotated value is multiplied by, on eight rows. -/
def invVal (sc : FVec F S1x128 .f32) : FVec F S8x128 .f32 :=
  broadcastTo S8x128 (shapeCast S1x128 (divf (broadcast S1x128 (Scalar.ofBits .f32 0x3CD105EC#32)) sc) shapeCasts_S1x128_S1x128) broadcasts_S1x128_S8x128

/-- A column block of the scales is in bounds. -/
theorem inbS (b : Fin 4) : ∀ a, (![0, 0, 128 * b.val] : Fin 3 → ℕ) a + S1x1x128.size a ≤ S1x1x512.size a :=
  inb3 (by show 0 + 1 ≤ 1; omega) (by show 0 + 1 ≤ 1; omega) (by show 128 * b.val + 128 ≤ 512; omega)

/-- A rotated value scaled and clipped to the codes' range. -/
def clipVal (v inv : FVec F S8x128 .f32) : FVec F S8x128 .f32 :=
  minimumf (broadcast S8x128 (Scalar.sitofp .f32 7#32)) (maximumf (broadcast S8x128 (Scalar.sitofp .f32 4294967289#32)) (mulf v inv))

/-- The codes of two neighbouring slabs. -/
def codeVal (v0 v1 inv : FVec F S8x128 .f32) : FVec F S16x128 .bf16 :=
  shapeCast S16x128 (truncf .bf16 (roundeven (concatenate S16x128 0 [⟨S8x128, clipVal v0 inv⟩, ⟨S8x128, clipVal v1 inv⟩]
    concatenates_S8x128_S8x128_S16x128_d0)) bitsLt_bf16_f32) shapeCasts_S16x128_S16x128

/-- Sixteen rows and 128 columns of the codes are in bounds. -/
theorem inbQ (j : Fin 24) (b : Fin 4) (t : Fin 4) :
    ∀ a, (![64 * j.val + 16 * t.val, 128 * b.val] : Fin 2 → ℕ) a + S16x128.size a ≤ S1536x512.size a :=
  inb2 (by show 64 * j.val + 16 * t.val + 16 ≤ 1536; omega) (by show 128 * b.val + 128 ≤ 512; omega)

/-- The codes of the slabs `2 t` and `2 t + 1` of the group `j`. -/
def codePair (arg11 : Memref sig .tc .vmem S8x192x512 .f32) (arg12 : Memref sig .tc .vmem S1536x512 .bf16) (harg12 : arg12.IsWhole)
    (b : Fin 4) (inv : FVec F S8x128 .f32) (j : Fin 24) (t : Fin 4) (_ : PUnit.{1}) : Pr F PUnit.{1} := do
  let v0 ← rowLoad (F := F) arg11 j b ⟨2 * t.val, by omega⟩
  let v1 ← rowLoad (F := F) arg11 j b ⟨2 * t.val + 1, by omega⟩
  let _ ← ld (F := F) arg12 ![64 * j.val + 16 * t.val, 128 * b.val] S16x128.size (inbQ j b t) h_S16x128
  st arg12 ![64 * j.val + 16 * t.val, 128 * b.val] S16x128.size (inbQ j b t) (codeVal v0 v1 inv)
    (View.stores_vmem h_S16x128 (harg12.storeExact_slice rfl _
      (packed2 ⟨32 * j.val + 8 * t.val, by show 64 * j.val + 16 * t.val = 2 * _; omega⟩ ⟨8, rfl⟩)) (fun _ => rfl))

/-- The tokens' block `b`: transform, scale, codes. -/
def colStep (arg7 : Memref sig .tc .vmem S1x1x512 .f32) (arg11 : Memref sig .tc .vmem S8x192x512 .f32) (arg12 : Memref sig .tc .vmem S1536x512 .bf16) (harg12 : arg12.IsWhole)
    (b : Fin 4) (_ : PUnit.{1}) : Pr F PUnit.{1} := do
  let m ← loopN 24 (whtStep (F := F) arg11 b) (broadcast S8x128 (Scalar.ofBits .f32 0x00000000#32))
  let _ ← ld (F := F) arg7 ![0, 0, 128 * b.val] S1x1x128.size (inbS b) h_S1x1x128
  st arg7 ![0, 0, 128 * b.val] S1x1x128.size (inbS b) (shapeCast S1x1x128 (scaleVal m) shapeCasts_S1x128_S1x1x128)
    (View.stores_vmem_bits_univ h_S1x1x128 rfl)
  loopN 24 (fun j _ => loopN 4 (codePair arg11 arg12 harg12 b (invVal (scaleVal m)) j) ⟨⟩) ⟨⟩

/-! ## The projection and the codes' output -/

/-- The block of codes `g`, transposed and converted to integers. -/
def codesVal (q : FVec F S128x512 .bf16) : IVec S512x128 8 :=
  trunci 8 (fptosi 32 (extf .f32 (transpose S512x128 [1, 0] q transposes_S128x512_p1_0_S512x128) bitsLt_bf16_f32)) natLt_8_32

/-- The output of the block of codes `g`. -/
def codesStep (arg6 : Memref sig .tc .vmem S512x1536 .i8) (harg6 : arg6.IsWhole) (arg12 : Memref sig .tc .vmem S1536x512 .bf16) (g : Fin 12) (_ : PUnit.{1}) : Pr F PUnit.{1} := do
  let q ← ld (F := F) arg12 ![128 * g.val, 0] S128x512.size (inbXt g) h_S128x512
  let _ ← ld (F := F) arg6 ![0, 128 * g.val] S512x128.size (inbX g) h_S512x128
  st (e := .i8) arg6 ![0, 128 * g.val] S512x128.size (inbX g) (codesVal q)
    (View.stores_vmem h_S512x128 (harg6.storeExact_slice rfl _ (packed2 ⟨0, rfl⟩ ⟨128, rfl⟩)) (fun _ => rfl))

/-- The projection of the codes, scaled. -/
def yVal (w : FVec F S576x1536 .bf16) (q : FVec F S1536x512 .bf16) (sc : FVec F S1x1x512 .f32) : FVec F S512x576 .bf16 :=
  transpose S512x576 [1, 0] (truncf .bf16 (mulf (matmul dot_S576x1536_S1536x512_S576x512_1_0_0_1_n_n none w q (constant S576x512 .f32 0x00000000#32))
    (broadcastTo S576x512 (shapeCast S1x512 sc shapeCasts_S1x1x512_S1x512) broadcasts_S1x512_S576x512)) bitsLt_bf16_f32) transposes_S576x512_p1_0_S512x576

variable (i : grid0.Coords) (arg1 : Memref sig .tc .vmem S512x1536 .bf16) (harg1 : arg1.IsWhole) (arg2 : Memref sig .tc .vmem S24x24 .f32) (harg2 : arg2.IsWhole) (arg3 : Memref sig .tc .vmem S576x768 .i8) (harg3 : arg3.IsWhole) (arg4 : Memref sig .tc .vmem S576x12 .f32) (harg4 : arg4.IsWhole) (arg5 : Memref sig .tc .vmem S512x576 .bf16) (harg5 : arg5.IsWhole) (arg6 : Memref sig .tc .vmem S512x1536 .i8) (harg6 : arg6.IsWhole) (arg7 : Memref sig .tc .vmem S1x1x512 .f32) (harg7 : arg7.IsWhole) (arg8 : Memref sig .tc .vmem S192x192 .bf16) (harg8 : arg8.IsWhole) (arg9 : Memref sig .tc .vmem S576x1536 .bf16) (harg9 : arg9.IsWhole) (arg10 : Memref sig .tc .vmem S1536x512 .f32) (harg10 : arg10.IsWhole) (arg11 : Memref sig .tc .vmem S8x192x512 .f32) (harg11 : arg11.IsWhole) (arg12 : Memref sig .tc .vmem S1536x512 .bf16) (harg12 : arg12.IsWhole)

/-- Whether the body runs at the first grid point, as the program tests it. -/
def isFirst : Prop := Scalar.cmpi .ne (Scalar.extui (Scalar.cmpi .eq (BitVec.ofNat 32 (i 0).val) 0#32) : BitVec 32) 0#32 = 1#1

instance : Decidable (isFirst i) := inferInstanceAs (Decidable (_ = _))

/-- The body after what the first grid point prepares. -/
def rest : Pr F PUnit.{1} := do
  loopN 12 (xtStep arg1 arg10) ⟨⟩
  let rot ← ld (F := F) arg8 ![0, 0] S192x192.size inb_S192x192_S192x192_0_0 h_S192x192
  loopN 8 (mmStep arg10 arg11 rot) ⟨⟩
  loopN 4 (colStep arg7 arg11 arg12 harg12) ⟨⟩
  let w ← ld (F := F) arg9 ![0, 0] S576x1536.size inb_S576x1536_S576x1536_0_0 h_S576x1536
  let q ← ld (F := F) arg12 ![0, 0] S1536x512.size inb_S1536x512_S1536x512_0_0 h_S1536x512
  let sc ← ld (F := F) arg7 ![0, 0, 0] S1x1x512.size inb_S1x1x512_S1x1x512_0_0_0 h_S1x1x512
  let _ ← ld (F := F) arg5 ![0, 0] S512x576.size inb_S512x576_S512x576_0_0 h_S512x576
  st arg5 ![0, 0] S512x576.size inb_S512x576_S512x576_0_0 (yVal w q sc)
    (View.stores_vmem h_S512x576 (harg5.storeExact_slice rfl _ packedbf16_S512x576_S512x576_0_0) (fun _ => rfl))
  loopN 12 (codesStep arg6 harg6 arg12) ⟨⟩

/-- The body with loops. -/
def body : Pr F PUnit.{1} :=
  if isFirst i then (prep arg2 arg3 arg4 arg8 harg8 arg9 harg9).bind fun _ => rest arg1 arg5 harg5 arg6 harg6 arg7 arg8 arg9 arg10 arg11 arg12 harg12
  else rest arg1 arg5 harg5 arg6 harg6 arg7 arg8 arg9 arg10 arg11 arg12 harg12

end Cert.KernelIdeal.Rolled

end
-- ==== Proof.RolledEq.lean ====
/- The printed body is the body with loops: each loop runs over its literal positions. -/
module

public import proofs.«01_k».proof.Proof.Rolled

@[expose] public section

noncomputable section

namespace Cert.KernelIdeal.Rolled

open Idealize.ShloMosaic Idealize.SL.Sem
open Cert.KernelIdeal

variable {F : FTy → Type} [FloatOps F] [Facts₀] [Facts]
variable (i : grid0.Coords) (arg1 : Memref sig .tc .vmem S512x1536 .bf16) (harg1 : arg1.IsWhole) (arg2 : Memref sig .tc .vmem S24x24 .f32) (harg2 : arg2.IsWhole) (arg3 : Memref sig .tc .vmem S576x768 .i8) (harg3 : arg3.IsWhole) (arg4 : Memref sig .tc .vmem S576x12 .f32) (harg4 : arg4.IsWhole) (arg5 : Memref sig .tc .vmem S512x576 .bf16) (harg5 : arg5.IsWhole) (arg6 : Memref sig .tc .vmem S512x1536 .i8) (harg6 : arg6.IsWhole) (arg7 : Memref sig .tc .vmem S1x1x512 .f32) (harg7 : arg7.IsWhole) (arg8 : Memref sig .tc .vmem S192x192 .bf16) (harg8 : arg8.IsWhole) (arg9 : Memref sig .tc .vmem S576x1536 .bf16) (harg9 : arg9.IsWhole) (arg10 : Memref sig .tc .vmem S1536x512 .f32) (harg10 : arg10.IsWhole) (arg11 : Memref sig .tc .vmem S8x192x512 .f32) (harg11 : arg11.IsWhole) (arg12 : Memref sig .tc .vmem S1536x512 .bf16) (harg12 : arg12.IsWhole)

open Shapes1.Facts₀ Shapes2.Facts₀

/-- The rest of the printed body's first part, after its conditional. -/
def head7 : Pr F (FVec F S128x512 .bf16) := do
  xtStep arg1 arg10 0 ⟨⟩
  xtStep (F := F) arg1 arg10 1 ⟨⟩
  xtStep (F := F) arg1 arg10 2 ⟨⟩
  xtStep (F := F) arg1 arg10 3 ⟨⟩
  let x ← ld (F := F) arg1 ![0, 128 * (4 : Fin 12).val] S512x128.size (inbX 4) h_S512x128
  pure (transpose S128x512 [1, 0] (shapeCast S512x128 x shapeCasts_S512x128_S512x128) transposes_S512x128_p1_0_S128x512)

/-- The printed part 7 is the preparation, where it runs, and the head. -/
theorem part7_pos (h : isFirst i) : k0_part7 (F := F) i arg1 harg1 arg2 harg2 arg3 harg3 arg4 harg4 arg5 harg5 arg6 harg6 arg7 harg7 arg8 harg8 arg9 harg9 arg10 harg10 arg11 harg11 arg12 harg12 = (prep arg2 arg3 arg4 arg8 harg8 arg9 harg9).bind fun _ => head7 arg1 arg10 := by
  have e : k0_part7 (F := F) i arg1 harg1 arg2 harg2 arg3 harg3 arg4 harg4 arg5 harg5 arg6 harg6 arg7 harg7 arg8 harg8 arg9 harg9 arg10 harg10 arg11 harg11 arg12 harg12 = if isFirst i then (prep arg2 arg3 arg4 arg8 harg8 arg9 harg9).bind fun _ => head7 arg1 arg10 else head7 arg1 arg10 := by
    sl_kernel_rfl
  rw [e, if_pos h]

/-- At a point that is not the first nothing is prepared. -/
theorem part7_neg (h : ¬ isFirst i) : k0_part7 (F := F) i arg1 harg1 arg2 harg2 arg3 harg3 arg4 harg4 arg5 harg5 arg6 harg6 arg7 harg7 arg8 harg8 arg9 harg9 arg10 harg10 arg11 harg11 arg12 harg12 = head7 arg1 arg10 := by
  have e : k0_part7 (F := F) i arg1 harg1 arg2 harg2 arg3 harg3 arg4 harg4 arg5 harg5 arg6 harg6 arg7 harg7 arg8 harg8 arg9 harg9 arg10 harg10 arg11 harg11 arg12 harg12 = if isFirst i then (prep arg2 arg3 arg4 arg8 harg8 arg9 harg9).bind fun _ => head7 arg1 arg10 else head7 arg1 arg10 := by
    sl_kernel_rfl
  rw [e, if_neg h]

/-- The printed body is the body with loops. -/
theorem body_eq : cc0_quarot_int4 (F := F) i arg1 harg1 arg2 harg2 arg3 harg3 arg4 harg4 arg5 harg5 arg6 harg6 arg7 harg7 arg8 harg8 arg9 harg9 arg10 harg10 arg11 harg11 arg12 harg12 = body i arg1 arg2 arg3 arg4 arg5 harg5 arg6 harg6 arg7 arg8 harg8 arg9 harg9 arg10 arg11 arg12 harg12 := by
  by_cases h : isFirst i
  · unfold cc0_quarot_int4 k0_part479
    refine (bind_assoc _ _ _).trans ?_
    refine (congrArg (fun p => p >>= _) (part7_pos i arg1 harg1 arg2 harg2 arg3 harg3 arg4 harg4 arg5 harg5 arg6 harg6 arg7 harg7 arg8 harg8 arg9 harg9 arg10 harg10 arg11 harg11 arg12 harg12 h)).trans ?_
    refine Eq.trans ?_ (if_pos h).symm
    sl_kernel_rfl
  · unfold cc0_quarot_int4 k0_part479
    refine (bind_assoc _ _ _).trans ?_
    refine (congrArg (fun p => p >>= _) (part7_neg i arg1 harg1 arg2 harg2 arg3 harg3 arg4 harg4 arg5 harg5 arg6 harg6 arg7 harg7 arg8 harg8 arg9 harg9 arg10 harg10 arg11 harg11 arg12 harg12 h)).trans ?_
    refine Eq.trans ?_ (if_neg h).symm
    sl_kernel_rfl

end Cert.KernelIdeal.Rolled

end
-- ==== Proof.Hoare.lean ====
/- Running a program of the kernel's body from one state of its twelve buffers to another. `Runs`: started with the
   buffers at `s`, the program ends with the result `a` and the buffers at `s'`. One rule each for a result, a
   sequence, a load, a store and a loop. -/
module

public import proofs.«01_k».proof.Proof.Rolled

@[expose] public section

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Facts₀] [Facts]

local notation "𝕄" => MT nD τ sig Unit (Elt F) ℕ (UR sig nD τ) ℕ

/-- The body's twelve buffers. -/
structure Bufs where
  a1 : Memref sig .tc .vmem S512x1536 .bf16
  a2 : Memref sig .tc .vmem S24x24 .f32
  a3 : Memref sig .tc .vmem S576x768 .i8
  a4 : Memref sig .tc .vmem S576x12 .f32
  a5 : Memref sig .tc .vmem S512x576 .bf16
  a6 : Memref sig .tc .vmem S512x1536 .i8
  a7 : Memref sig .tc .vmem S1x1x512 .f32
  a8 : Memref sig .tc .vmem S192x192 .bf16
  a9 : Memref sig .tc .vmem S576x1536 .bf16
  a10 : Memref sig .tc .vmem S1536x512 .f32
  a11 : Memref sig .tc .vmem S8x192x512 .f32
  a12 : Memref sig .tc .vmem S1536x512 .bf16

/-- What the twelve buffers hold. -/
structure St (F : FTy → Type) where
  x : Vec F S512x1536 .bf16
  had : Vec F S24x24 .f32
  wp : Vec F S576x768 .i8
  ws : Vec F S576x12 .f32
  y : Vec F S512x576 .bf16
  codes : Vec F S512x1536 .i8
  scale : Vec F S1x1x512 .f32
  rot : Vec F S192x192 .bf16
  w : Vec F S576x1536 .bf16
  xt : Vec F S1536x512 .f32
  u : Vec F S8x192x512 .f32
  q : Vec F S1536x512 .bf16

/-- The core owns the twelve buffers, at `s`. -/
def own (c : Dev nD) (b : Bufs) (s : St F) : sProp 𝕄 :=
  iprop(owns (c : Thread nD τ) b.a1 fullShare s.x ∗ owns (c : Thread nD τ) b.a2 fullShare s.had ∗ owns (c : Thread nD τ) b.a3 fullShare s.wp
    ∗ owns (c : Thread nD τ) b.a4 fullShare s.ws ∗ owns (c : Thread nD τ) b.a5 fullShare s.y ∗ owns (c : Thread nD τ) b.a6 fullShare s.codes
    ∗ owns (c : Thread nD τ) b.a7 fullShare s.scale ∗ owns (c : Thread nD τ) b.a8 fullShare s.rot ∗ owns (c : Thread nD τ) b.a9 fullShare s.w
    ∗ owns (c : Thread nD τ) b.a10 fullShare s.xt ∗ owns (c : Thread nD τ) b.a11 fullShare s.u ∗ owns (c : Thread nD τ) b.a12 fullShare s.q)

/-- From the buffers at `s` the program ends with the result `a` and the buffers at `s'`. -/
def Runs (c : Dev nD) (b : Bufs) {α : Type} (p : Pr F α) (s : St F) (a : α) (s' : St F) : Prop :=
  ∀ (E : Set ℕ) (Q : α → sProp 𝕄),
    iprop(own c b s ∗ (own c b s' -∗ Q a)) ⊢ wp frame (wpE (defs₀ (F := F)) Variants.none c none) E p Q

variable {c : Dev nD} {b : Bufs}

/-- A result is reached at once. -/
theorem Runs.ret {α : Type} (s : St F) (a : α) : Runs c b (.ret a) s a s := by
  intro E Q
  refine BIBase.Entails.trans ?_ (le_wp_ret _ _ _ a Q)
  exact wand_elim_right

/-- A sequence runs its parts in turn. -/
theorem Runs.bind {α β : Type} {p : Pr F α} {k : α → Pr F β} {s s' s'' : St F} {a : α} {r : β}
    (h : Runs c b p s a s') (hk : Runs c b (k a) s' r s'') : Runs c b (p.bind k) s r s'' := by
  intro E Q
  have e := wp_bind frame (wpE (defs₀ (F := F)) Variants.none (c : Thread nD τ) none) E p k Q
  change _ ⊢ wp frame (wpE (defs₀ (F := F)) Variants.none (c : Thread nD τ) none) E (p >>= k) Q
  rw [e]
  refine BIBase.Entails.trans ?_ (h E _)
  iintro ⟨H, Hk⟩
  isplitl [H]; · iexact H
  iintro H
  iapply (hk E Q)
  isplitl [H]; · iexact H
  iexact Hk

/-- The buffer `a` of the twelve: what it holds (`get`) and the state with something else in it (`set`). -/
def Focus (c : Dev nD) (b : Bufs) {s : Shape} {e : EltTy} (a : Memref sig .tc .vmem s e) (get : St F → Vec F s e) (set : St F → Vec F s e → St F) : Prop :=
  ∀ S : St F, own c b S ⊢ iprop(owns (c : Thread nD τ) a fullShare (get S) ∗ ∀ v, (owns (c : Thread nD τ) a fullShare v -∗ own c b (set S v)))

/-- A load of a block: the window of what the buffer holds. -/
theorem Runs.ld {s : Shape} {e : EltTy} {a : Memref sig .tc .vmem s e} {get : St F → Vec F s e} {set : St F → Vec F s e → St F}
    (hf : Focus c b a get set) (hset : ∀ S, set S (get S) = S) (off size : Fin s.rank → ℕ) (inb : ∀ x, off x + size x ≤ s.size x)
    (hp : 0 < (⟨s.rank, size⟩ : Shape).numel) (S : St F) :
    Runs c b (Rolled.ld a off size inb hp) S (VecWindow.window (get S) off size inb) S := by
  intro E Q
  refine (sep_mono_left (hf S)).trans ?_
  unfold owns
  iintro ⟨⟨⟨%f, %hfr, H⟩, Hback⟩, Hk⟩
  iapply (wp_load (c := (c : Thread nD τ)) (cs := .vmem) (defs := defs₀ (F := F)) (𝒱 := Variants.none) (bd := none) (E := E) (Q := Q) (m := a) (r := (Rect.unit (s := s) off size inb).toLoadRect) (hl := View.loadsAt_vmem hp) (k := Prog.ret) (q := fullShare) (f := f) (View.setOn_subset_set _ _)) $$ H
  iintro H
  have e1 : a.view.readAt (Elt F) (Rect.unit (s := s) off size inb).toLoadRect f = VecWindow.window (get S) off size inb := by
    rw [View.readAt_unit _ _ inb rfl inb, hfr]
  rw [e1]
  iapply (le_wp_ret _ _ _ _ Q)
  iapply Hk
  ispecialize Hback $$ %(get S)
  irevert Hback
  rw [hset S]
  iintro Hback
  iapply Hback
  iexists f; isplitr
  · ipureintro; exact hfr
  iexact H

/-- A store over a block: the buffer's content with the block replaced. -/
theorem Runs.st {s : Shape} {e : EltTy} {a : Memref sig .tc .vmem s e} {get : St F → Vec F s e} {set : St F → Vec F s e → St F}
    (hf : Focus c b a get set) (off size : Fin s.rank → ℕ) (inb : ∀ x, off x + size x ≤ s.size x) (w : Vec F ⟨s.rank, size⟩ e)
    (hx : (a.access (Rect.unit (s := s) off size inb)).Stores Finset.univ) (S : St F) :
    Runs c b (Rolled.st a off size inb w hx) S ⟨⟩ (set S (VecWindow.put (get S) off size w)) := by
  intro E Q
  refine (sep_mono_left (hf S)).trans ?_
  unfold owns
  iintro ⟨⟨⟨%f, %hfr, H⟩, Hback⟩, Hk⟩
  iapply (wp_store (c := (c : Thread nD τ)) (cs := .vmem) (defs := defs₀ (F := F)) (𝒱 := Variants.none) (bd := none) (E := E) (Q := Q) (m := a)
    (r := Rect.unit (s := s) off size inb) (w := w) (Mk := Finset.univ) (hx := hx) (hm := .inl rfl) (k := Prog.ret) (f := f)
    (S := a.view.set) (View.setOn_slice_subset_set _ _ _)) $$ H
  iintro H
  iapply (le_wp_ret _ _ _ _ Q)
  iapply Hk
  ispecialize Hback $$ %(VecWindow.put (get S) off size w)
  iapply Hback
  iexists _; isplitr; swap; · iexact H
  ipureintro
  rw [← hfr]
  exact View.read_writes_cons_put a.view f inb w [] rfl

/-- A loop runs its positions in turn: a property of the position, the threaded value and the state that one step
    carries on is there at the end. -/
theorem Runs.loop {α : Type} {N : ℕ} {f : Fin N → α → Pr F α} (I : ℕ → α → St F → Prop)
    (hstep : ∀ (k : Fin N) a s, I k.val a s → ∃ a' s', Runs c b (f k a) s a' s' ∧ I (k.val + 1) a' s') :
    ∀ (n k : ℕ) (h : k + n = N) (a : α) (s : St F), I k a s → ∃ a' s', Runs c b (Rolled.loop f n k h a) s a' s' ∧ I N a' s'
  | 0, k, h, a, s, hI => ⟨a, s, Runs.ret s a, by have : k = N := by omega
                                                 exact this ▸ hI⟩
  | n + 1, k, h, a, s, hI => by
    obtain ⟨a1, s1, h1, hI1⟩ := hstep ⟨k, by omega⟩ a s hI
    obtain ⟨a2, s2, h2, hI2⟩ := Runs.loop I hstep n (k + 1) (by omega) a1 s1 hI1
    exact ⟨a2, s2, h1.bind h2, hI2⟩

/-- A loop over every position. -/
theorem Runs.loopN {α : Type} {N : ℕ} {f : Fin N → α → Pr F α} (I : ℕ → α → St F → Prop)
    (hstep : ∀ (k : Fin N) a s, I k.val a s → ∃ a' s', Runs c b (f k a) s a' s' ∧ I (k.val + 1) a' s') (a : α) (s : St F) (h0 : I 0 a s) :
    ∃ a' s', Runs c b (Rolled.loopN N f a) s a' s' ∧ I N a' s' :=
  Runs.loop I hstep N 0 (Nat.zero_add N) a s h0

/-- Programs that leave the buffers, gathered. -/
theorem Runs.gather {α : Type} : ∀ (N : ℕ) (f : Fin N → Pr F α) (v : Fin N → α) (s : St F), (∀ k, Runs c b (f k) s (v k) s) →
    Runs c b (Rolled.gather N f) s v s
  | 0, f, v, s, h => by
    have : v = Fin.elim0 := funext fun k => k.elim0
    subst this; exact Runs.ret s _
  | N + 1, f, v, s, h => by
    refine (h 0).bind ((Runs.gather N _ (fun k => v k.succ) s fun k => h k.succ).bind ?_)
    have : v = Fin.cons (v 0) (fun k => v k.succ) := (Fin.cons_self_tail v).symm
    exact this ▸ Runs.ret s v

/-! ## The twelve buffers, one at a time -/

/-- Access to the block of activations alone, the other buffers left as they are. -/
theorem focus_x : Focus (F := F) c b b.a1 St.x fun S v => { S with x := v } := by
  intro S; unfold own
  iintro ⟨H1, H2, H3, H4, H5, H6, H7, H8, H9, H10, H11, H12⟩
  isplitl [H1]; · iexact H1
  iintro %v H1
  iframe

/-- Access to the Hadamard matrix alone, the other buffers left as they are. -/
theorem focus_had : Focus (F := F) c b b.a2 St.had fun S v => { S with had := v } := by
  intro S; unfold own
  iintro ⟨H1, H2, H3, H4, H5, H6, H7, H8, H9, H10, H11, H12⟩
  isplitl [H2]; · iexact H2
  iintro %v H2
  iframe

/-- Access to the packed weights alone, the other buffers left as they are. -/
theorem focus_wp : Focus (F := F) c b b.a3 St.wp fun S v => { S with wp := v } := by
  intro S; unfold own
  iintro ⟨H1, H2, H3, H4, H5, H6, H7, H8, H9, H10, H11, H12⟩
  isplitl [H3]; · iexact H3
  iintro %v H3
  iframe

/-- Access to the weight scales alone, the other buffers left as they are. -/
theorem focus_ws : Focus (F := F) c b b.a4 St.ws fun S v => { S with ws := v } := by
  intro S; unfold own
  iintro ⟨H1, H2, H3, H4, H5, H6, H7, H8, H9, H10, H11, H12⟩
  isplitl [H4]; · iexact H4
  iintro %v H4
  iframe

/-- Access to the block of the projection alone, the other buffers left as they are. -/
theorem focus_y : Focus (F := F) c b b.a5 St.y fun S v => { S with y := v } := by
  intro S; unfold own
  iintro ⟨H1, H2, H3, H4, H5, H6, H7, H8, H9, H10, H11, H12⟩
  isplitl [H5]; · iexact H5
  iintro %v H5
  iframe

/-- Access to the block of codes alone, the other buffers left as they are. -/
theorem focus_codes : Focus (F := F) c b b.a6 St.codes fun S v => { S with codes := v } := by
  intro S; unfold own
  iintro ⟨H1, H2, H3, H4, H5, H6, H7, H8, H9, H10, H11, H12⟩
  isplitl [H6]; · iexact H6
  iintro %v H6
  iframe

/-- Access to the block of scales alone, the other buffers left as they are. -/
theorem focus_scale : Focus (F := F) c b b.a7 St.scale fun S v => { S with scale := v } := by
  intro S; unfold own
  iintro ⟨H1, H2, H3, H4, H5, H6, H7, H8, H9, H10, H11, H12⟩
  isplitl [H7]; · iexact H7
  iintro %v H7
  iframe

/-- Access to the rotation buffer alone, the other buffers left as they are. -/
theorem focus_rot : Focus (F := F) c b b.a8 St.rot fun S v => { S with rot := v } := by
  intro S; unfold own
  iintro ⟨H1, H2, H3, H4, H5, H6, H7, H8, H9, H10, H11, H12⟩
  isplitl [H8]; · iexact H8
  iintro %v H8
  iframe

/-- Access to the weight buffer alone, the other buffers left as they are. -/
theorem focus_w : Focus (F := F) c b b.a9 St.w fun S v => { S with w := v } := by
  intro S; unfold own
  iintro ⟨H1, H2, H3, H4, H5, H6, H7, H8, H9, H10, H11, H12⟩
  isplitl [H9]; · iexact H9
  iintro %v H9
  iframe

/-- Access to the buffer of transposed activations alone, the other buffers left as they are. -/
theorem focus_xt : Focus (F := F) c b b.a10 St.xt fun S v => { S with xt := v } := by
  intro S; unfold own
  iintro ⟨H1, H2, H3, H4, H5, H6, H7, H8, H9, H10, H11, H12⟩
  isplitl [H10]; · iexact H10
  iintro %v H10
  iframe

/-- Access to the buffer of rotated slabs alone, the other buffers left as they are. -/
theorem focus_u : Focus (F := F) c b b.a11 St.u fun S v => { S with u := v } := by
  intro S; unfold own
  iintro ⟨H1, H2, H3, H4, H5, H6, H7, H8, H9, H10, H11, H12⟩
  isplitl [H11]; · iexact H11
  iintro %v H11
  iframe

/-- Access to the buffer of codes alone, the other buffers left as they are. -/
theorem focus_q : Focus (F := F) c b b.a12 St.q fun S v => { S with q := v } := by
  intro S; unfold own
  iintro ⟨H1, H2, H3, H4, H5, H6, H7, H8, H9, H10, H11, H12⟩
  isplitl [H12]; · iexact H12
  iintro %v H12
  iframe

end Cert.KernelIdeal.Rolled

end
-- ==== Proof.Values.lean ====
/- What the kernel's operations compute, read at an index over the extended reals: one statement for each value the
   rolled body stores, and the two readings of a block of a buffer (a window, a put). -/
module

public import proofs.«01_k».proof.Proof.Hoare
public import Idealize.ShloMosaic.Lib.Pointwise

@[expose] public section

set_option maxRecDepth 16384

noncomputable section

namespace Cert.KernelIdeal.Rolled

open Idealize.ShloMosaic
open Cert.KernelIdeal

/-! ## Blocks of a buffer -/

section Blocks
variable {α : Type}

/-- A window of an array of two axes, at an index. -/
theorem window2 {n0 n1 o0 o1 s0 s1 : ℕ} (x : (⟨2, ![n0, n1]⟩ : Shape).Idx → α)
    (inb : ∀ a, (![o0, o1] : Fin 2 → ℕ) a + (![s0, s1] : Fin 2 → ℕ) a ≤ (⟨2, ![n0, n1]⟩ : Shape).size a) (i : Fin s0) (j : Fin s1) (r : Fin n0) (c : Fin n1)
    (hr : r.val = o0 + i.val) (hc : c.val = o1 + j.val) :
    VecWindow.window (s := ⟨2, ![n0, n1]⟩) x ![o0, o1] ![s0, s1] inb (ix2 i j) = x (ix2 r c) := by
  unfold VecWindow.window
  congr 1
  funext a
  apply Fin.ext
  match a with
  | ⟨0, _⟩ => show o0 + 1 * i.val = r.val; omega
  | ⟨1, _⟩ => show o1 + 1 * j.val = c.val; omega

/-- A window of an array of three axes, at an index. -/
theorem window3 {n0 n1 n2 o0 o1 o2 s0 s1 s2 : ℕ} (x : (⟨3, ![n0, n1, n2]⟩ : Shape).Idx → α)
    (inb : ∀ a, (![o0, o1, o2] : Fin 3 → ℕ) a + (![s0, s1, s2] : Fin 3 → ℕ) a ≤ (⟨3, ![n0, n1, n2]⟩ : Shape).size a)
    (i : Fin s0) (j : Fin s1) (k : Fin s2) (q : Fin n0) (r : Fin n1) (c : Fin n2)
    (hq : q.val = o0 + i.val) (hr : r.val = o1 + j.val) (hc : c.val = o2 + k.val) :
    VecWindow.window (s := ⟨3, ![n0, n1, n2]⟩) x ![o0, o1, o2] ![s0, s1, s2] inb (ix3 i j k) = x (ix3 q r c) := by
  unfold VecWindow.window
  congr 1
  funext a
  apply Fin.ext
  match a with
  | ⟨0, _⟩ => show o0 + 1 * i.val = q.val; omega
  | ⟨1, _⟩ => show o1 + 1 * j.val = r.val; omega
  | ⟨2, _⟩ => show o2 + 1 * k.val = c.val; omega

/-- The window over a whole buffer is the buffer. -/
theorem window_whole {s : Shape} (x : s.Idx → α) (off : Fin s.rank → ℕ) (inb : ∀ a, off a + s.size a ≤ s.size a) :
    VecWindow.window x off s.size inb = x := by
  funext y
  unfold VecWindow.window
  rw [Rect.emb_unit_full]

/-- A put over a whole buffer is the value put. -/
theorem put_whole {s : Shape} (x : s.Idx → α) (off : Fin s.rank → ℕ) (inb : ∀ a, off a + s.size a ≤ s.size a) (w : s.Idx → α) :
    VecWindow.put x off s.size w = w := by
  have h := VecWindow.window_put_same x off s.size inb w
  rwa [window_whole] at h

/-- A write to a window of two axes, inside the window. -/
theorem put2_hit {n0 n1 o0 o1 s0 s1 : ℕ} (x : (⟨2, ![n0, n1]⟩ : Shape).Idx → α) (w : (⟨2, ![s0, s1]⟩ : Shape).Idx → α)
    (i : Fin s0) (j : Fin s1) (r : Fin n0) (c : Fin n1) (hr : r.val = o0 + i.val) (hc : c.val = o1 + j.val) :
    VecWindow.put (s := ⟨2, ![n0, n1]⟩) x ![o0, o1] ![s0, s1] w (ix2 r c) = w (ix2 i j) := by
  unfold VecWindow.put
  have h : ∀ a : Fin 2, (![o0, o1] : Fin 2 → ℕ) a ≤ ((ix2 r c : (⟨2, ![n0, n1]⟩ : Shape).Idx) a).val
      ∧ ((ix2 r c : (⟨2, ![n0, n1]⟩ : Shape).Idx) a).val < (![o0, o1] : Fin 2 → ℕ) a + (![s0, s1] : Fin 2 → ℕ) a := by
    intro a
    match a with
    | ⟨0, _⟩ => show o0 ≤ r.val ∧ r.val < o0 + s0; omega
    | ⟨1, _⟩ => show o1 ≤ c.val ∧ c.val < o1 + s1; omega
  refine (dif_pos h).trans (congrArg w ?_)
  funext a
  apply Fin.ext
  match a with
  | ⟨0, _⟩ => show r.val - o0 = i.val; omega
  | ⟨1, _⟩ => show c.val - o1 = j.val; omega

/-- A write to a window of two axes, outside the window. -/
theorem put2_miss {n0 n1 o0 o1 s0 s1 : ℕ} (x : (⟨2, ![n0, n1]⟩ : Shape).Idx → α) (w : (⟨2, ![s0, s1]⟩ : Shape).Idx → α)
    (r : Fin n0) (c : Fin n1) (h : r.val < o0 ∨ o0 + s0 ≤ r.val ∨ c.val < o1 ∨ o1 + s1 ≤ c.val) :
    VecWindow.put (s := ⟨2, ![n0, n1]⟩) x ![o0, o1] ![s0, s1] w (ix2 r c) = x (ix2 r c) := by
  unfold VecWindow.put
  refine dif_neg fun hh => ?_
  have h0 : o0 ≤ r.val ∧ r.val < o0 + s0 := hh 0
  have h1 : o1 ≤ c.val ∧ c.val < o1 + s1 := hh 1
  omega

/-- A write to a window of three axes, inside the window. -/
theorem put3_hit {n0 n1 n2 o0 o1 o2 s0 s1 s2 : ℕ} (x : (⟨3, ![n0, n1, n2]⟩ : Shape).Idx → α) (w : (⟨3, ![s0, s1, s2]⟩ : Shape).Idx → α)
    (i : Fin s0) (j : Fin s1) (k : Fin s2) (q : Fin n0) (r : Fin n1) (c : Fin n2)
    (hq : q.val = o0 + i.val) (hr : r.val = o1 + j.val) (hc : c.val = o2 + k.val) :
    VecWindow.put (s := ⟨3, ![n0, n1, n2]⟩) x ![o0, o1, o2] ![s0, s1, s2] w (ix3 q r c) = w (ix3 i j k) := by
  unfold VecWindow.put
  have h : ∀ a : Fin 3, (![o0, o1, o2] : Fin 3 → ℕ) a ≤ ((ix3 q r c : (⟨3, ![n0, n1, n2]⟩ : Shape).Idx) a).val
      ∧ ((ix3 q r c : (⟨3, ![n0, n1, n2]⟩ : Shape).Idx) a).val < (![o0, o1, o2] : Fin 3 → ℕ) a + (![s0, s1, s2] : Fin 3 → ℕ) a := by
    intro a
    match a with
    | ⟨0, _⟩ => show o0 ≤ q.val ∧ q.val < o0 + s0; omega
    | ⟨1, _⟩ => show o1 ≤ r.val ∧ r.val < o1 + s1; omega
    | ⟨2, _⟩ => show o2 ≤ c.val ∧ c.val < o2 + s2; omega
  refine (dif_pos h).trans (congrArg w ?_)
  funext a
  apply Fin.ext
  match a with
  | ⟨0, _⟩ => show q.val - o0 = i.val; omega
  | ⟨1, _⟩ => show r.val - o1 = j.val; omega
  | ⟨2, _⟩ => show c.val - o2 = k.val; omega

/-- A write to a window of three axes, outside the window. -/
theorem put3_miss {n0 n1 n2 o0 o1 o2 s0 s1 s2 : ℕ} (x : (⟨3, ![n0, n1, n2]⟩ : Shape).Idx → α) (w : (⟨3, ![s0, s1, s2]⟩ : Shape).Idx → α)
    (q : Fin n0) (r : Fin n1) (c : Fin n2)
    (h : q.val < o0 ∨ o0 + s0 ≤ q.val ∨ r.val < o1 ∨ o1 + s1 ≤ r.val ∨ c.val < o2 ∨ o2 + s2 ≤ c.val) :
    VecWindow.put (s := ⟨3, ![n0, n1, n2]⟩) x ![o0, o1, o2] ![s0, s1, s2] w (ix3 q r c) = x (ix3 q r c) := by
  unfold VecWindow.put
  refine dif_neg fun hh => ?_
  have h0 : o0 ≤ q.val ∧ q.val < o0 + s0 := hh 0
  have h1 : o1 ≤ r.val ∧ r.val < o1 + s1 := hh 1
  have h2 : o2 ≤ c.val ∧ c.val < o2 + s2 := hh 2
  omega

end Blocks

/-! ## The constants -/

/-- One over the rotation's norm. -/
def invN : EReal := Ideal.ofBits .f32 0x3CD105EC#32
/-- Seven, the greatest code. -/
def seven : EReal := Ideal.ofBits .f32 0x40E00000#32

/-- The sign of an entry of the eight-point transform: the parity of the bits common to its row and its column. -/
def sg (a b : Fin 8) : ℤ := 1 - 2 * (((BitVec.ofNat 32 a.val &&& BitVec.ofNat 32 b.val).cpop &&& 1#32).toNat : ℤ)

/-- The scale of a token whose greatest rotated magnitude is `m`. -/
def scaleOf (m : EReal) : EReal := if m * invN = 0 then 1 else Ideal.div (m * invN) seven

/-- The code of the rotated value `v` at the scale `sc`. -/
def codeOf (v sc : EReal) : EReal :=
  Ideal.liftRound Ideal.roundHalfEven (min (((7 : ℤ) : ℝ) : EReal) (max (((-7 : ℤ) : ℝ) : EReal) (v * Ideal.div invN sc)))

/-- A nibble read as a signed four-bit number. -/
def nib (b : BitVec 32) : EReal := (((Scalar.select (IntOp.cmpi .sge b 8#32) (IntOp.subi b 16#32) b).toInt : ℝ) : EReal)

/-- The eight-point transform of scalars, in three stages. -/
def whtS (v : Fin 8 → EReal) : Fin 8 → EReal :=
  let a : Fin 8 → EReal := ![v 0 + v 1, v 0 - v 1, v 2 + v 3, v 2 - v 3, v 4 + v 5, v 4 - v 5, v 6 + v 7, v 6 - v 7]
  let b : Fin 8 → EReal := ![a 0 + a 2, a 1 + a 3, a 0 - a 2, a 1 - a 3, a 4 + a 6, a 5 + a 7, a 4 - a 6, a 5 - a 7]
  ![b 0 + b 4, b 1 + b 5, b 2 + b 6, b 3 + b 7, b 0 - b 4, b 1 - b 5, b 2 - b 6, b 3 - b 7]

variable [Facts₀] [Facts]

/-! ## The values stored -/

/-- A transposed group of activations, at an index. -/
theorem xtVal_apply (x : FVec Ideal S512x128 .bf16) (r : Fin 128) (k : Fin 512) : xtVal (F := Ideal) x (ix2 r k) = x (ix2 k r) := by
  pointwise [xtVal]

/-- Twenty-four pieces of eight rows, one under the other, at an index. -/
theorem concat_rows {α : Type} (j : S192x512.Idx) (k : Fin 512) (hk : j 1 = k) (q : Fin 8) :
    ∀ (vs : List (S8x512.Idx → α)) (hs : ∀ s ∈ (vs.map fun v => (⟨S8x512, v⟩ : (s : Shape) × (s.Idx → α))).map (·.1), s.FitsOff S192x512 0)
      (a : ℕ) (ha : a < vs.length) (n : ℕ) (hn : n = 8 * a + q.val) (hc : n < (axisSizes S192x512 0 (vs.map fun v => (⟨S8x512, v⟩ : (s : Shape) × (s.Idx → α)))).sum),
      concatenateAt S192x512 0 j (vs.map fun v => (⟨S8x512, v⟩ : (s : Shape) × (s.Idx → α))) hs n hc = vs[a] (ix2 q k)
  | [], _, a, ha, _, _, _ => absurd ha (Nat.not_lt_zero _)
  | [v], hs, a, ha, n, hn, hc => by
    have ha0 : a = 0 := by simpa using ha
    subst ha0
    refine (concatenateAt_singleton 0 j v hs n hc).trans ?_
    show v _ = v _
    congr 1
    funext b
    apply Fin.ext
    match b with
    | ⟨0, _⟩ => show n = q.val; omega
    | ⟨1, _⟩ => show (j 1).val = k.val; rw [hk]
  | v :: w :: vs, hs, a, ha, n, hn, hc => by
    refine (concatenateAt_cons 0 j v ⟨S8x512, w⟩ (vs.map fun v => (⟨S8x512, v⟩ : (s : Shape) × (s.Idx → α))) hs n hc).trans ?_
    match a with
    | 0 =>
      have h8 : n < 8 := by omega
      refine (dif_pos h8).trans ?_
      show v _ = v _
      congr 1
      funext b
      apply Fin.ext
      match b with
      | ⟨0, _⟩ => show n = q.val; omega
      | ⟨1, _⟩ => show (j 1).val = k.val; rw [hk]
    | a + 1 =>
      have h8 : ¬ n < 8 := by omega
      refine (dif_neg h8).trans ?_
      exact concat_rows j k hk q (w :: vs) _ a (by simpa using ha) (n - 8) (by omega) _

/-- A slab times the rotation, at an index. -/
theorem mmVal_apply (rot : FVec Ideal S192x192 .bf16) (v : Fin 24 → FVec Ideal S8x512 .f32) (r : Fin 192) (k : Fin 512) :
    mmVal (F := Ideal) rot v (ix3 0 r k)
      = ∑ c : Fin 192, rot (ix2 r c) * v ⟨c.val / 8, by omega⟩ (ix2 ⟨c.val % 8, by omega⟩ k) := by
  have hcat : ∀ (hh) (c : Fin 192), concatenate S192x512 0 [⟨S8x512, v 0⟩, ⟨S8x512, v 1⟩, ⟨S8x512, v 2⟩, ⟨S8x512, v 3⟩, ⟨S8x512, v 4⟩, ⟨S8x512, v 5⟩, ⟨S8x512, v 6⟩, ⟨S8x512, v 7⟩, ⟨S8x512, v 8⟩, ⟨S8x512, v 9⟩, ⟨S8x512, v 10⟩, ⟨S8x512, v 11⟩, ⟨S8x512, v 12⟩, ⟨S8x512, v 13⟩, ⟨S8x512, v 14⟩, ⟨S8x512, v 15⟩, ⟨S8x512, v 16⟩, ⟨S8x512, v 17⟩, ⟨S8x512, v 18⟩, ⟨S8x512, v 19⟩, ⟨S8x512, v 20⟩, ⟨S8x512, v 21⟩, ⟨S8x512, v 22⟩, ⟨S8x512, v 23⟩] hh (ix2 c k)
      = v ⟨c.val / 8, by omega⟩ (ix2 ⟨c.val % 8, by omega⟩ k) := by
    intro hh c
    rw [concatenate_apply]
    refine (concat_rows (ix2 c k) k rfl ⟨c.val % 8, by omega⟩ [v 0, v 1, v 2, v 3, v 4, v 5, v 6, v 7, v 8, v 9, v 10, v 11, v 12, v 13, v 14, v 15, v 16, v 17, v 18, v 19, v 20, v 21, v 22, v 23] hh.2.1 (c.val / 8)
      (by show _ < 24; omega) c.val (by show c.val = 8 * (c.val / 8) + c.val % 8; omega) _).trans ?_
    have hv : ([v 0, v 1, v 2, v 3, v 4, v 5, v 6, v 7, v 8, v 9, v 10, v 11, v 12, v 13, v 14, v 15, v 16, v 17, v 18, v 19, v 20, v 21, v 22, v 23] : List (FVec Ideal S8x512 .f32)) = List.ofFn v := by
      simp [List.ofFn_succ]
    have : ∀ (l : List (FVec Ideal S8x512 .f32)) (h : _ < l.length) , l = List.ofFn v → l[c.val / 8] = v ⟨c.val / 8, by omega⟩ := by
      intro l h e; subst e; exact List.getElem_ofFn h
    exact congrFun (this _ _ hv) _
  unfold mmVal
  generalize hg : concatenate (α := Ideal .f32) S192x512 0 [⟨S8x512, v 0⟩, ⟨S8x512, v 1⟩, ⟨S8x512, v 2⟩, ⟨S8x512, v 3⟩, ⟨S8x512, v 4⟩, ⟨S8x512, v 5⟩, ⟨S8x512, v 6⟩, ⟨S8x512, v 7⟩, ⟨S8x512, v 8⟩, ⟨S8x512, v 9⟩, ⟨S8x512, v 10⟩, ⟨S8x512, v 11⟩, ⟨S8x512, v 12⟩, ⟨S8x512, v 13⟩, ⟨S8x512, v 14⟩, ⟨S8x512, v 15⟩, ⟨S8x512, v 16⟩, ⟨S8x512, v 17⟩, ⟨S8x512, v 18⟩, ⟨S8x512, v 19⟩, ⟨S8x512, v 20⟩, ⟨S8x512, v 21⟩, ⟨S8x512, v 22⟩, ⟨S8x512, v 23⟩] _ = C
  have hC : ∀ c : Fin 192, C (ix2 c k) = v ⟨c.val / 8, by omega⟩ (ix2 ⟨c.val % 8, by omega⟩ k) := fun c => by rw [← hg]; exact hcat _ c
  clear hg hcat
  pointwise
  exact Finset.sum_congr rfl fun c _ => congrArg _ (hC c)

/-- The butterflies of eight, at an index. -/
theorem wht_apply (v : Fin 8 → FVec Ideal S8x128 .f32) (t : Fin 8) (r : Fin 8) (k : Fin 128) :
    wht (F := Ideal) v t (ix2 r k) = whtS (fun t => v t (ix2 r k)) t := by
  fin_cases t <;> rfl

/-- Sixteen rows of codes, at an index. -/
theorem codeVal_apply (v0 v1 inv : FVec Ideal S8x128 .f32) (r : Fin 16) (k : Fin 128) : codeVal (F := Ideal) v0 v1 inv (ix2 r k)
    = Ideal.liftRound Ideal.roundHalfEven (min (((7 : ℤ) : ℝ) : EReal) (max (((-7 : ℤ) : ℝ) : EReal)
        (if h : r.val < 8 then v0 (ix2 ⟨r.val, h⟩ k) * inv (ix2 ⟨r.val, h⟩ k) else v1 (ix2 ⟨r.val - 8, by omega⟩ k) * inv (ix2 ⟨r.val - 8, by omega⟩ k)))) := by
  have e7 : (7#32).toInt = 7 := by decide
  have e9 : (4294967289#32).toInt = -7 := by decide
  pointwise [codeVal, clipVal]
  rw [e7, e9]
  split <;> rfl

/-- A scale from the running maximum of its column. -/
theorem scaleVal_apply (m : FVec Ideal S8x128 .f32) (k : Fin 128) : scaleVal (F := Ideal) m (ix2 0 k)
    = scaleOf (Finset.fold max (Ideal.ofBits .f32 0xFF800000#32) (fun r => m (ix2 r k)) Finset.univ) := by
  pointwise [scaleVal]
  rfl

/-- The factor over the scale, spread over eight rows. -/
theorem invVal_apply (m : FVec Ideal S1x128 .f32) (r : Fin 8) (k : Fin 128) : invVal (F := Ideal) m (ix2 r k) = Ideal.div invN (m (ix2 0 k)) := by
  pointwise [invVal]
  rfl

/-- A group of codes as bytes, at an index. -/
theorem codesVal_apply (q : FVec Ideal S128x512 .bf16) (r : Fin 512) (k : Fin 128) : codesVal (F := Ideal) q (ix2 r k)
    = BitVec.setWidth 8 (FloatOps.fptosi (F := Ideal) (φ := .f32) 32 (q (ix2 k r))) := by
  pointwise [codesVal]

/-- The block of the projection, at an index. -/
theorem yVal_apply (w : FVec Ideal S576x1536 .bf16) (q : FVec Ideal S1536x512 .bf16) (sc : FVec Ideal S1x1x512 .f32) (r : Fin 512) (k : Fin 576) :
    yVal (F := Ideal) w q sc (ix2 r k) = (∑ c : Fin 1536, w (ix2 k c) * q (ix2 c r)) * sc (ix3 0 0 r) := by
  pointwise [yVal]

/-- A group of weights times its scale, at an index. -/
theorem wBlock_apply (b : IVec S576x128 32) (sc : FVec Ideal S576x1 .f32) (r : Fin 576) (k : Fin 128) :
    wBlock (F := Ideal) b sc (ix2 r k) = nib (b (ix2 r k)) * sc (ix2 r 0) := by
  pointwise [wBlock]
  rfl

/-- The low nibbles of a group of columns, at an index. -/
theorem lowNib_apply (wp : IVec S576x768 32) (g : Fin 6) (r : Fin 576) (k : Fin 128) :
    lowNib wp g (ix2 r k) = IntOp.andi (wp (ix2 r ⟨128 * g.val + k.val, by omega⟩)) 15#32 := by
  pointwise [lowNib]

/-- The high nibbles of a group of columns, at an index. -/
theorem highNib_apply (wp : IVec S576x768 32) (g : Fin 6) (r : Fin 576) (k : Fin 128) :
    highNib wp g (ix2 r k) = IntOp.andi (IntOp.shrsi .vector (wp (ix2 r ⟨128 * g.val + k.val, by omega⟩)) 4#32) 15#32 := by
  pointwise [highNib]

/-- A column of the weight scales, at an index. -/
theorem scaleCol_apply (ws : FVec Ideal S576x12 .f32) (g : Fin 12) (r : Fin 576) : scaleCol (F := Ideal) ws g (ix2 r 0) = ws (ix2 r g) := by
  pointwise [scaleCol]

/-! ## The rotation matrix -/

/-- An integer vector of zeros and ones converted. -/
theorem sitofp_ite (b : BitVec 32) (p : Prop) [Decidable p] (h : b.toInt = if p then 1 else 0) :
    (FloatOps.sitofp (F := Ideal) .f32 b : EReal) = if p then 1 else 0 := by
  show ((b.toInt : ℝ) : EReal) = _
  rw [h]; split <;> simp

/-- The matrix that repeats rows eight times, at an index. -/
theorem ejVal_apply (r : Fin 192) (x : Fin 24) : ejVal (F := Ideal) (ix2 r x) = if r.val / 8 = x.val then (1 : EReal) else 0 := by
  pointwise [ejVal]
  refine sitofp_ite _ _ ?_
  revert r x
  decide +kernel

/-- The matrix that repeats columns eight times, at an index. -/
theorem ekVal_apply (x : Fin 24) (c : Fin 192) : ekVal (F := Ideal) (ix2 x c) = if c.val / 8 = x.val then (1 : EReal) else 0 := by
  pointwise [ekVal]
  refine sitofp_ite _ _ ?_
  revert x c
  decide +kernel

/-- The last three bits are the remainder by eight. -/
theorem and7 (r : Fin 192) : IntOp.andi (BitVec.ofNat 32 r.val) 7#32 = BitVec.ofNat 32 (r.val % 8) := by
  revert r; decide +kernel

/-- The sign computed on words is the sign of the eight-point transform. -/
theorem sg_eq (a b : Fin 8) :
    (IntOp.subi 1#32 (IntOp.muli 2#32 (IntOp.andi (IntOp.ctpop (IntOp.andi (BitVec.ofNat 32 a.val) (BitVec.ofNat 32 b.val))) 1#32))).toInt = sg a b := by
  revert a b; decide +kernel

/-- The signs of the rotation, at an index. -/
theorem signVal_apply (r c : Fin 192) : signVal (F := Ideal) (ix2 r c)
    = (((sg ⟨r.val % 8, by omega⟩ ⟨c.val % 8, by omega⟩ : ℤ) : ℝ) : EReal) := by
  pointwise [signVal]
  rw [and7, and7, ← sg_eq]
  rfl

/-- The rotation matrix: the entry of `had` of the two groups of eight, times the sign of the positions within them. -/
theorem rotVal_apply (had : FVec Ideal S24x24 .f32) (r c : Fin 192) : rotVal (F := Ideal) had (ix2 r c)
    = had (ix2 ⟨r.val / 8, by omega⟩ ⟨c.val / 8, by omega⟩) * (((sg ⟨r.val % 8, by omega⟩ ⟨c.val % 8, by omega⟩ : ℤ) : ℝ) : EReal) := by
  pointwise [rotVal]
  rw [signVal_apply]
  congr 1
  have h1 : ∀ x : Fin 24, (∑ x_1 : Fin 24, had (ix2 x x_1) * ekVal (F := Ideal) (ix2 x_1 c)) = had (ix2 x ⟨c.val / 8, by omega⟩) := by
    intro x
    rw [Finset.sum_eq_single (⟨c.val / 8, by omega⟩ : Fin 24)]
    · rw [ekVal_apply, if_pos rfl]; exact mul_one _
    · intro y _ hy
      rw [ekVal_apply, if_neg (fun e => hy (Fin.ext e.symm))]; exact mul_zero _
    · intro h; exact absurd (Finset.mem_univ _) h
  rw [Finset.sum_eq_single (⟨r.val / 8, by omega⟩ : Fin 24)]
  · rw [ejVal_apply, if_pos rfl, h1]; exact one_mul _
  · intro y _ hy
    rw [ejVal_apply, if_neg (fun e => hy (Fin.ext e.symm))]; exact zero_mul _
  · intro h; exact absurd (Finset.mem_univ _) h

end Cert.KernelIdeal.Rolled

end
-- ==== Proof.Phases.lean ====
/- What the phases of the body leave in the buffers, over the extended reals: the transposed tokens, the slab products,
   the transform with the greatest magnitudes, the scales and the codes. -/
module

public import proofs.«01_k».proof.Proof.Values

@[expose] public section

set_option maxRecDepth 16384

noncomputable section

namespace Cert.KernelIdeal.Rolled

open Idealize.ShloMosaic
open Cert.KernelIdeal

variable [Facts₀] [Facts] {c : Dev nD} {b : Bufs}

/-! ## The tokens, transposed -/

/-- The activations are transposed, group by group. -/
theorem xt_runs (s : St Ideal) : ∃ X, Runs c b (loopN 12 (xtStep b.a1 b.a10) ⟨⟩) s ⟨⟩ { s with xt := X }
    ∧ ∀ (r : Fin 1536) (k : Fin 512), X (ix2 r k) = s.x (ix2 k r) := by
  obtain ⟨a, s', hr, X, rfl, hX⟩ := Runs.loopN (c := c) (b := b) (f := xtStep b.a1 b.a10)
    (fun n _ s' => ∃ X, s' = { s with xt := X } ∧ ∀ (r : Fin 1536) (k : Fin 512), r.val < 128 * n → X (ix2 r k) = s.x (ix2 k r))
    (by
      rintro g a _ ⟨X, rfl, hX⟩
      refine ⟨_, _, Runs.bind (Runs.ld focus_x (fun _ => rfl) _ _ _ _ _) (Runs.bind (Runs.ld focus_xt (fun _ => rfl) _ _ _ _ _) (Runs.st focus_xt _ _ _ _ _ _)),
        _, rfl, ?_⟩
      intro r k hr
      by_cases h : r.val < 128 * g.val
      · exact (put2_miss _ _ r k (by omega)).trans (hX r k h)
      · refine (put2_hit _ _ ⟨r.val - 128 * g.val, by omega⟩ k r k (by show r.val = _; simp only; omega) (by simp)).trans ?_
        refine (xtVal_apply _ _ _).trans ?_
        exact window2 s.x _ k ⟨r.val - 128 * g.val, by omega⟩ k r (by simp) (by simp only; omega))
    ⟨⟩ s ⟨s.xt, rfl, fun r k h => absurd h (by omega)⟩
  exact ⟨X, hr, fun r k => hX r k (by omega)⟩

/-! ## The slab products -/

/-- The channel of the group `c / 8` of 64 that the row `c` of the slab `t` holds. -/
def chan (t : Fin 8) (c : Fin 192) : Fin 1536 := ⟨64 * (c.val / 8) + 8 * t.val + c.val % 8, by omega⟩

/-- Every slab is multiplied by the rotation. -/
theorem mm_runs (rot : FVec Ideal S192x192 .bf16) (s : St Ideal) : ∃ U, Runs c b (loopN 8 (mmStep b.a10 b.a11 rot) ⟨⟩) s ⟨⟩ { s with u := U }
    ∧ ∀ (t : Fin 8) (r : Fin 192) (k : Fin 512), U (ix3 t r k) = ∑ l : Fin 192, rot (ix2 r l) * s.xt (ix2 (chan t l) k) := by
  obtain ⟨a, s', hr, U, rfl, hU⟩ := Runs.loopN (c := c) (b := b) (f := mmStep b.a10 b.a11 rot)
    (fun n _ s' => ∃ U, s' = { s with u := U } ∧ ∀ (t : Fin 8) (r : Fin 192) (k : Fin 512), t.val < n →
      U (ix3 t r k) = ∑ l : Fin 192, rot (ix2 r l) * s.xt (ix2 (chan t l) k))
    (by
      rintro g a _ ⟨U, rfl, hU⟩
      refine ⟨_, _, Runs.bind (Runs.gather 24 (slabLoad b.a10 g) (fun k => VecWindow.window s.xt ![64 * k.val + 8 * g.val, 0] S8x512.size (inbSlab g k)) _
        fun k => Runs.ld focus_xt (fun _ => rfl) _ _ _ _ _) (Runs.bind (Runs.ld focus_u (fun _ => rfl) _ _ _ _ _) (Runs.st focus_u _ _ _ _ _ _)),
        _, rfl, ?_⟩
      intro t r k ht
      by_cases h : t.val < g.val
      · exact (put3_miss _ _ t r k (by omega)).trans (hU t r k h)
      · have e : t = g := Fin.ext (by omega)
        subst e
        refine (put3_hit _ _ 0 r k t r k (by simp) (by simp) (by simp)).trans ?_
        refine (mmVal_apply rot _ r k).trans ?_
        refine Finset.sum_congr rfl fun l _ => congrArg _ ?_
        exact window2 s.xt _ _ k (chan t l) k (by simp [chan]) (by simp))
    ⟨⟩ s ⟨s.u, rfl, fun t r k h => absurd h (by omega)⟩
  exact ⟨U, hr, fun t r k => hU t r k t.isLt⟩

/-! ## The transform -/

/-- The transform of a column of the eight slabs. -/
def col (u : FVec Ideal S8x192x512 .f32) (t : Fin 8) (r : Fin 192) (k : Fin 512) : EReal := whtS (fun t => u (ix3 t r k)) t

/-- A magnitude. -/
def mag (x : EReal) : EReal := max x (-x)

/-- Eight rows loaded from a slab, at an index. -/
theorem rowLoad_apply (v : FVec Ideal S1x8x128 .f32) (r : Fin 8) (k : Fin 128) :
    shapeCast S8x128 v Shapes1.Facts₀.shapeCasts_S1x8x128_S8x128 (ix2 r k) = v (ix3 0 r k) := by
  pointwise

/-- Eight rows stored to a slab, at an index. -/
theorem rowStore_apply (v : FVec Ideal S8x128 .f32) (r : Fin 8) (k : Fin 128) :
    shapeCast S1x8x128 v Shapes1.Facts₀.shapeCasts_S8x128_S1x8x128 (ix3 0 r k) = v (ix2 r k) := by
  pointwise

/-- The row `r` of the group `j`. -/
def row (j : Fin 24) (r : Fin 8) : Fin 192 := ⟨8 * j.val + r.val, by omega⟩
/-- The token `k` of the block `q`. -/
def tok (q : Fin 4) (k : Fin 128) : Fin 512 := ⟨128 * q.val + k.val, by omega⟩

/-- Eight rows of each slab are stored, and the running maximum kept. -/
theorem rowStores_runs (q : Fin 4) (j : Fin 24) (w : Fin 8 → FVec Ideal S8x128 .f32) (m : FVec Ideal S8x128 .f32) (s : St Ideal) :
    ∃ U m', Runs c b (loopN 8 (rowStore b.a11 j q w) m) s m' { s with u := U }
      ∧ (∀ (t : Fin 8) (r : Fin 8) (k : Fin 128), U (ix3 t (row j r) (tok q k)) = w t (ix2 r k))
      ∧ (∀ (t : Fin 8) (r : Fin 192) (k : Fin 512), r.val / 8 ≠ j.val ∨ k.val / 128 ≠ q.val → U (ix3 t r k) = s.u (ix3 t r k))
      ∧ (∀ (r : Fin 8) (k : Fin 128) (z : EReal), m' (ix2 r k) ≤ z ↔ m (ix2 r k) ≤ z ∧ ∀ t, mag (w t (ix2 r k)) ≤ z) := by
  obtain ⟨m', s', hr, U, rfl, h1, h2, h3⟩ := Runs.loopN (c := c) (b := b) (f := rowStore b.a11 j q w)
    (fun n m' s' => ∃ U, s' = { s with u := U }
      ∧ (∀ (t : Fin 8) (r : Fin 8) (k : Fin 128), t.val < n → U (ix3 t (row j r) (tok q k)) = w t (ix2 r k))
      ∧ (∀ (t : Fin 8) (r : Fin 192) (k : Fin 512), r.val / 8 ≠ j.val ∨ k.val / 128 ≠ q.val → U (ix3 t r k) = s.u (ix3 t r k))
      ∧ (∀ (r : Fin 8) (k : Fin 128) (z : EReal), m' (ix2 r k) ≤ z ↔ m (ix2 r k) ≤ z ∧ ∀ t : Fin 8, t.val < n → mag (w t (ix2 r k)) ≤ z))
    (by
      rintro g a _ ⟨U, rfl, h1, h2, h3⟩
      refine ⟨_, _, Runs.bind (Runs.ld focus_u (fun _ => rfl) _ _ _ _ _) (Runs.bind (Runs.st focus_u _ _ _ _ _ _) (Runs.ret _ _)), _, rfl, ?_, ?_, ?_⟩
      · intro t r k ht
        by_cases h : t.val < g.val
        · exact (put3_miss _ _ t _ _ (by omega)).trans (h1 t r k h)
        · have e : t = g := Fin.ext (by omega)
          subst e
          refine (put3_hit _ _ 0 r k t _ _ (by simp) (by simp [row]) (by simp [tok])).trans ?_
          exact rowStore_apply _ _ _
      · intro t r k h
        exact (put3_miss _ _ t r k (by omega)).trans (h2 t r k h)
      · intro r k z
        show max (a (ix2 r k)) (mag (w g (ix2 r k))) ≤ z ↔ _
        rw [max_le_iff, h3, and_assoc]
        refine and_congr_right fun _ => ⟨fun ⟨h, h'⟩ t ht => ?_, fun h => ⟨fun t ht => h t (by omega), h g (by omega)⟩⟩
        by_cases e : t = g
        · exact e ▸ h'
        · exact h t (by have := Fin.val_ne_of_ne e; omega))
    m s ⟨s.u, rfl, fun t r k h => absurd h (by omega), fun _ _ _ _ => rfl,
      fun r k z => ⟨fun h => ⟨h, fun t ht => absurd ht (by omega)⟩, fun h => h.1⟩⟩
  exact ⟨U, m', hr, fun t r k => h1 t r k t.isLt, h2, fun r k z => by rw [h3]; exact and_congr_right fun _ => ⟨fun h t => h t t.isLt, fun h t _ => h t⟩⟩

/-- The butterflies of one group of rows across the slabs. -/
theorem whtStep_runs (q : Fin 4) (j : Fin 24) (m : FVec Ideal S8x128 .f32) (s : St Ideal) :
    ∃ U m', Runs c b (whtStep b.a11 q j m) s m' { s with u := U }
      ∧ (∀ (t : Fin 8) (r : Fin 8) (k : Fin 128), U (ix3 t (row j r) (tok q k)) = col s.u t (row j r) (tok q k))
      ∧ (∀ (t : Fin 8) (r : Fin 192) (k : Fin 512), r.val / 8 ≠ j.val ∨ k.val / 128 ≠ q.val → U (ix3 t r k) = s.u (ix3 t r k))
      ∧ (∀ (r : Fin 8) (k : Fin 128) (z : EReal), m' (ix2 r k) ≤ z ↔ m (ix2 r k) ≤ z ∧ ∀ t, mag (col s.u t (row j r) (tok q k)) ≤ z) := by
  let v : Fin 8 → FVec Ideal S8x128 .f32 := fun t => shapeCast S8x128
    (VecWindow.window s.u ![t.val, 8 * j.val, 128 * q.val] S1x8x128.size (inbR t j q)) Shapes1.Facts₀.shapeCasts_S1x8x128_S8x128
  obtain ⟨U, m', hr, h1, h2, h3⟩ := rowStores_runs (c := c) (b := b) q j (wht v) m s
  have hv : ∀ (t : Fin 8) (r : Fin 8) (k : Fin 128), wht v t (ix2 r k) = col s.u t (row j r) (tok q k) := by
    intro t r k
    rw [wht_apply]
    unfold col
    congr 1
    funext t
    refine (rowLoad_apply _ r k).trans ?_
    exact window3 s.u _ 0 r k t _ _ (by simp) (by simp [row]) (by simp [tok])
  refine ⟨U, m', Runs.bind (Runs.gather 8 (rowLoad b.a11 j q) v s fun t => Runs.bind (Runs.ld focus_u (fun _ => rfl) _ _ _ _ _) (Runs.ret _ _)) hr, ?_, h2, ?_⟩
  · intro t r k; rw [h1, hv]
  · intro r k z; rw [h3]; simp only [hv]

/-- The transform of one block of tokens, over every group. -/
theorem whts_runs (q : Fin 4) (m : FVec Ideal S8x128 .f32) (s : St Ideal) :
    ∃ U m', Runs c b (loopN 24 (whtStep b.a11 q) m) s m' { s with u := U }
      ∧ (∀ (t : Fin 8) (r : Fin 192) (k : Fin 512), k.val / 128 = q.val → U (ix3 t r k) = col s.u t r k)
      ∧ (∀ (t : Fin 8) (r : Fin 192) (k : Fin 512), k.val / 128 ≠ q.val → U (ix3 t r k) = s.u (ix3 t r k))
      ∧ (∀ (r : Fin 8) (k : Fin 128) (z : EReal), m' (ix2 r k) ≤ z ↔ m (ix2 r k) ≤ z ∧ ∀ (j : Fin 24) t, mag (col s.u t (row j r) (tok q k)) ≤ z) := by
  obtain ⟨m', s', hr, U, rfl, h1, h2, h3⟩ := Runs.loopN (c := c) (b := b) (f := whtStep b.a11 q)
    (fun n m' s' => ∃ U, s' = { s with u := U }
      ∧ (∀ (t : Fin 8) (r : Fin 192) (k : Fin 512), k.val / 128 = q.val → r.val / 8 < n → U (ix3 t r k) = col s.u t r k)
      ∧ (∀ (t : Fin 8) (r : Fin 192) (k : Fin 512), k.val / 128 ≠ q.val ∨ n ≤ r.val / 8 → U (ix3 t r k) = s.u (ix3 t r k))
      ∧ (∀ (r : Fin 8) (k : Fin 128) (z : EReal), m' (ix2 r k) ≤ z ↔ m (ix2 r k) ≤ z ∧ ∀ (j : Fin 24), j.val < n → ∀ t, mag (col s.u t (row j r) (tok q k)) ≤ z))
    (by
      rintro g a _ ⟨U, rfl, h1, h2, h3⟩
      obtain ⟨U', m', hr, g1, g2, g3⟩ := whtStep_runs (c := c) (b := b) q g a { s with u := U }
      have hcol : ∀ (t : Fin 8) (r : Fin 192) (k : Fin 512), r.val / 8 = g.val → col U t r k = col s.u t r k := by
        intro t r k h
        unfold col
        congr 1
        funext t
        exact h2 t r k (.inr (by omega))
      refine ⟨_, _, hr, _, rfl, ?_, ?_, ?_⟩
      · intro t r k hk hn
        by_cases h : r.val / 8 = g.val
        · have er : r = row g ⟨r.val % 8, by omega⟩ := Fin.ext (by simp only [row]; omega)
          have ek : k = tok q ⟨k.val % 128, by omega⟩ := Fin.ext (by simp only [tok]; omega)
          rw [← hcol t r k h, er, ek]
          exact g1 t _ _
        · rw [g2 t r k (.inl h)]
          exact h1 t r k hk (by omega)
      · intro t r k h
        rw [g2 t r k (by omega)]
        exact h2 t r k (by omega)
      · intro r k z
        rw [g3, h3, and_assoc]
        refine and_congr_right fun _ => ⟨fun ⟨h, h'⟩ j hj t => ?_, fun h => ⟨fun j hj t => h j (by omega) t, fun t => ?_⟩⟩
        · by_cases e : j = g
          · subst e; rw [← hcol t _ _ (by simp only [row]; omega)]; exact h' t
          · exact h j (by have := Fin.val_ne_of_ne e; omega) t
        · show mag (col U t _ _) ≤ z
          rw [hcol t _ _ (by simp only [row]; omega)]; exact h g (by omega) t)
    m s ⟨s.u, rfl, fun t r k _ h => absurd h (by omega), fun _ _ _ _ => rfl,
      fun r k z => ⟨fun h => ⟨h, fun t ht => absurd ht (by omega)⟩, fun h => h.1⟩⟩
  exact ⟨U, m', hr, fun t r k hk => h1 t r k hk (by omega), fun t r k hk => h2 t r k (.inl hk),
    fun r k z => by rw [h3]; exact and_congr_right fun _ => ⟨fun h j => h j j.isLt, fun h j _ => h j⟩⟩

end Cert.KernelIdeal.Rolled

end
-- ==== Proof.Body.lean ====
/- What the whole body leaves in its output buffers, over the extended reals, from the tokens' block, the rotation
   matrix and the weights it finds. -/
module

public import proofs.«01_k».proof.Proof.Phases

@[expose] public section

set_option maxRecDepth 16384

noncomputable section

namespace Cert.KernelIdeal.Rolled

open Idealize.ShloMosaic
open Cert.KernelIdeal
open Shapes1.Facts₀ Shapes2.Facts₀

variable [Facts₀] [Facts] {c : Dev nD} {b : Bufs}

/-! ## The codes of one block of tokens -/

/-- The row of the codes that the slab `t` and the row `r` of the group `j` go to. -/
def qrow (j : Fin 24) (t : Fin 8) (r : Fin 8) : Fin 1536 := ⟨64 * j.val + 8 * t.val + r.val, by omega⟩

/-- Two slabs of a group of rows are quantised and written to the codes at once. -/
theorem codePair_runs (q : Fin 4) (inv : FVec Ideal S8x128 .f32) (j : Fin 24) (p : Fin 4) (h12 : b.a12.IsWhole) (s : St Ideal) :
    ∃ Q, Runs c b (codePair b.a11 b.a12 h12 q inv j p ⟨⟩) s ⟨⟩ { s with q := Q }
      ∧ (∀ (t r : Fin 8) (k : Fin 128), t.val / 2 = p.val → Q (ix2 (qrow j t r) (tok q k))
          = Ideal.liftRound Ideal.roundHalfEven (min (((7 : ℤ) : ℝ) : EReal) (max (((-7 : ℤ) : ℝ) : EReal) (s.u (ix3 t (row j r) (tok q k)) * inv (ix2 r k)))))
      ∧ (∀ (l : Fin 1536) (k : Fin 512), l.val / 16 ≠ 4 * j.val + p.val ∨ k.val / 128 ≠ q.val → Q (ix2 l k) = s.q (ix2 l k)) := by
  refine ⟨_, Runs.bind (Runs.bind (Runs.ld focus_u (fun _ => rfl) _ _ _ _ _) (Runs.ret _ _))
    (Runs.bind (Runs.bind (Runs.ld focus_u (fun _ => rfl) _ _ _ _ _) (Runs.ret _ _))
      (Runs.bind (Runs.ld focus_q (fun _ => rfl) _ _ _ _ _) (Runs.st focus_q _ _ _ _ _ _))), ?_, ?_⟩
  · intro t r k ht
    refine (put2_hit _ _ ⟨8 * (t.val % 2) + r.val, by omega⟩ k _ _ (by simp only [qrow]; omega) (by simp [tok])).trans ?_
    refine (codeVal_apply _ _ _ _ _).trans ?_
    congr 3
    by_cases h : t.val % 2 = 0
    · have h8 : 8 * (t.val % 2) + r.val < 8 := by omega
      have e : (⟨8 * (t.val % 2) + r.val, h8⟩ : Fin 8) = r := Fin.ext (by simp only; omega)
      rw [dif_pos h8]
      simp only [e]
      congr 1
      refine (rowLoad_apply _ _ _).trans ?_
      exact window3 s.u _ 0 r k t _ _ (by simp; omega) (by simp [row]) (by simp [tok])
    · have h8 : ¬ 8 * (t.val % 2) + r.val < 8 := by omega
      have e : (⟨8 * (t.val % 2) + r.val - 8, by omega⟩ : Fin 8) = r := Fin.ext (by simp only; omega)
      rw [dif_neg h8]
      simp only [e]
      congr 1
      refine (rowLoad_apply _ _ _).trans ?_
      exact window3 s.u _ 0 r k t _ _ (by simp; omega) (by simp [row]) (by simp [tok])
  · intro l k h
    exact put2_miss _ _ l k (by omega)

/-- All eight slabs of a group of rows are quantised and written, two at a time. -/
theorem codePairs_runs (q : Fin 4) (inv : FVec Ideal S8x128 .f32) (j : Fin 24) (h12 : b.a12.IsWhole) (s : St Ideal) :
    ∃ Q, Runs c b (loopN 4 (codePair b.a11 b.a12 h12 q inv j) ⟨⟩) s ⟨⟩ { s with q := Q }
      ∧ (∀ (t r : Fin 8) (k : Fin 128), Q (ix2 (qrow j t r) (tok q k))
          = Ideal.liftRound Ideal.roundHalfEven (min (((7 : ℤ) : ℝ) : EReal) (max (((-7 : ℤ) : ℝ) : EReal) (s.u (ix3 t (row j r) (tok q k)) * inv (ix2 r k)))))
      ∧ (∀ (l : Fin 1536) (k : Fin 512), l.val / 64 ≠ j.val ∨ k.val / 128 ≠ q.val → Q (ix2 l k) = s.q (ix2 l k)) := by
  obtain ⟨a, s', hr, Q, rfl, h1, h2⟩ := Runs.loopN (c := c) (b := b) (f := codePair b.a11 b.a12 h12 q inv j)
    (fun n _ s' => ∃ Q, s' = { s with q := Q }
      ∧ (∀ (t r : Fin 8) (k : Fin 128), t.val / 2 < n → Q (ix2 (qrow j t r) (tok q k))
          = Ideal.liftRound Ideal.roundHalfEven (min (((7 : ℤ) : ℝ) : EReal) (max (((-7 : ℤ) : ℝ) : EReal) (s.u (ix3 t (row j r) (tok q k)) * inv (ix2 r k)))))
      ∧ (∀ (l : Fin 1536) (k : Fin 512), l.val / 64 ≠ j.val ∨ k.val / 128 ≠ q.val → Q (ix2 l k) = s.q (ix2 l k)))
    (by
      rintro g a _ ⟨Q, rfl, h1, h2⟩
      obtain ⟨Q', hr, g1, g2⟩ := codePair_runs (c := c) (b := b) q inv j g h12 { s with q := Q }
      refine ⟨_, _, hr, _, rfl, ?_, ?_⟩
      · intro t r k ht
        by_cases h : t.val / 2 = g.val
        · exact g1 t r k h
        · rw [g2 _ _ (.inl (by simp only [qrow]; omega))]
          exact h1 t r k (by omega)
      · intro l k h
        rw [g2 l k (by omega)]
        exact h2 l k h)
    ⟨⟩ s ⟨s.q, rfl, fun t r k h => absurd h (by omega), fun _ _ _ => rfl⟩
  exact ⟨Q, hr, fun t r k => h1 t r k (by omega), h2⟩

/-- All twenty-four groups of rows of a column block are quantised and written. -/
theorem codes_runs (q : Fin 4) (inv : FVec Ideal S8x128 .f32) (h12 : b.a12.IsWhole) (s : St Ideal) :
    ∃ Q, Runs c b (loopN 24 (fun j _ => loopN 4 (codePair b.a11 b.a12 h12 q inv j) ⟨⟩) ⟨⟩) s ⟨⟩ { s with q := Q }
      ∧ (∀ (j : Fin 24) (t r : Fin 8) (k : Fin 128), Q (ix2 (qrow j t r) (tok q k))
          = Ideal.liftRound Ideal.roundHalfEven (min (((7 : ℤ) : ℝ) : EReal) (max (((-7 : ℤ) : ℝ) : EReal) (s.u (ix3 t (row j r) (tok q k)) * inv (ix2 r k)))))
      ∧ (∀ (l : Fin 1536) (k : Fin 512), k.val / 128 ≠ q.val → Q (ix2 l k) = s.q (ix2 l k)) := by
  obtain ⟨a, s', hr, Q, rfl, h1, h2⟩ := Runs.loopN (c := c) (b := b) (f := fun j _ => loopN 4 (codePair b.a11 b.a12 h12 q inv j) ⟨⟩)
    (fun n _ s' => ∃ Q, s' = { s with q := Q }
      ∧ (∀ (j : Fin 24) (t r : Fin 8) (k : Fin 128), j.val < n → Q (ix2 (qrow j t r) (tok q k))
          = Ideal.liftRound Ideal.roundHalfEven (min (((7 : ℤ) : ℝ) : EReal) (max (((-7 : ℤ) : ℝ) : EReal) (s.u (ix3 t (row j r) (tok q k)) * inv (ix2 r k)))))
      ∧ (∀ (l : Fin 1536) (k : Fin 512), k.val / 128 ≠ q.val → Q (ix2 l k) = s.q (ix2 l k)))
    (by
      rintro g a _ ⟨Q, rfl, h1, h2⟩
      obtain ⟨Q', hr, g1, g2⟩ := codePairs_runs (c := c) (b := b) q inv g h12 { s with q := Q }
      refine ⟨_, _, hr, _, rfl, ?_, ?_⟩
      · intro j t r k hj
        by_cases h : j = g
        · subst h; exact g1 t r k
        · have := Fin.val_ne_of_ne h
          rw [g2 _ _ (.inl (by simp only [qrow]; omega))]
          exact h1 j t r k (by omega)
      · intro l k h
        rw [g2 l k (.inr h)]
        exact h2 l k h)
    ⟨⟩ s ⟨s.q, rfl, fun j t r k h => absurd h (by omega), fun _ _ _ => rfl⟩
  exact ⟨Q, hr, fun j t r k => h1 j t r k j.isLt, h2⟩

/-! ## One block of tokens: transform, scale, codes -/

/-- The greatest magnitude of a family of columns. -/
def amax (f : Fin 8 → Fin 192 → EReal) : EReal := ⨆ t, ⨆ r, mag (f t r)

/-- The scale of the token `k`. -/
def scaleAt (u : FVec Ideal S8x192x512 .f32) (k : Fin 512) : EReal := scaleOf (amax fun t r => col u t r k)

/-- A magnitude is not negative. -/
theorem mag_nonneg (x : EReal) : 0 ≤ mag x := by
  unfold mag
  rcases le_total 0 x with h | h
  · exact h.trans (le_max_left _ _)
  · exact (EReal.neg_nonneg.2 h).trans (le_max_right _ _)

/-- The word that a maximum starts from is the least extended real. -/
theorem ofBits_neg_inf : Ideal.ofBits .f32 0xFF800000#32 = ⊥ := by
  show Ideal.ieee 8 23 0xFF800000#32 = ⊥
  unfold Ideal.ieee
  have h1 : (BitVec.extractLsb' 23 8 0xFF800000#32).toNat = 2 ^ 8 - 1 := by decide
  have h2 : (BitVec.extractLsb' 0 23 0xFF800000#32).toNat = 0 := by decide
  have h3 : (BitVec.extractLsb' (8 + 23) 1 0xFF800000#32 == 1#1) = true := by decide
  simp only [h1, h2, h3, if_true]

/-- The running maximum over groups and slabs, then over rows, is the greatest magnitude of the column. -/
theorem fold_eq_amax (u : FVec Ideal S8x192x512 .f32) (q : Fin 4) (k : Fin 128) (m : FVec Ideal S8x128 .f32)
    (hm : ∀ (r : Fin 8) (z : EReal), m (ix2 r k) ≤ z ↔ 0 ≤ z ∧ ∀ (j : Fin 24) t, mag (col u t (row j r) (tok q k)) ≤ z) :
    Finset.fold max (Ideal.ofBits .f32 0xFF800000#32) (fun r => m (ix2 r k)) (Finset.univ : Finset (Fin 8)) = amax fun t r => col u t r (tok q k) := by
  refine eq_of_forall_ge_iff fun z => ?_
  rw [Finset.fold_max_le, ofBits_neg_inf]
  unfold amax
  simp only [iSup_le_iff, hm]
  constructor
  · rintro ⟨_, h⟩ t r
    have := (h ⟨r.val % 8, by omega⟩ (Finset.mem_univ _)).2 ⟨r.val / 8, by omega⟩ t
    have e : row ⟨r.val / 8, by omega⟩ ⟨r.val % 8, by omega⟩ = r := Fin.ext (by simp only [row]; omega)
    rwa [e] at this
  · intro h
    exact ⟨bot_le, fun r _ => ⟨(mag_nonneg _).trans (h 0 0), fun j t => h t _⟩⟩

/-- A row of scales stored as a block, at an index. -/
theorem scaleCast_apply (v : FVec Ideal S1x128 .f32) (k : Fin 128) :
    shapeCast S1x1x128 v shapeCasts_S1x128_S1x1x128 (ix3 0 0 k) = v (ix2 0 k) := by
  pointwise

/-- A column block: butterflies, scales and codes of its 128 tokens. -/
theorem colStep_runs (q : Fin 4) (h12 : b.a12.IsWhole) (s : St Ideal) :
    ∃ SC U Q, Runs c b (colStep b.a7 b.a11 b.a12 h12 q ⟨⟩) s ⟨⟩ { s with scale := SC, u := U, q := Q }
      ∧ (∀ k : Fin 512, k.val / 128 = q.val → SC (ix3 0 0 k) = scaleAt s.u k)
      ∧ (∀ k : Fin 512, k.val / 128 ≠ q.val → SC (ix3 0 0 k) = s.scale (ix3 0 0 k))
      ∧ (∀ (t : Fin 8) (r : Fin 192) (k : Fin 512), k.val / 128 ≠ q.val → U (ix3 t r k) = s.u (ix3 t r k))
      ∧ (∀ (j : Fin 24) (t r : Fin 8) (k : Fin 512), k.val / 128 = q.val → Q (ix2 (qrow j t r) k) = codeOf (col s.u t (row j r) k) (scaleAt s.u k))
      ∧ (∀ (l : Fin 1536) (k : Fin 512), k.val / 128 ≠ q.val → Q (ix2 l k) = s.q (ix2 l k)) := by
  obtain ⟨U, m, hr, h1, h2, h3⟩ := whts_runs (c := c) (b := b) q (broadcast S8x128 (Scalar.ofBits (F := Ideal) .f32 0x00000000#32)) s
  obtain ⟨Q, hr', g1, g2⟩ := codes_runs (c := c) (b := b) q (invVal (F := Ideal) (scaleVal m)) h12
    { s with u := U, scale := VecWindow.put s.scale ![0, 0, 128 * q.val] S1x1x128.size (shapeCast S1x1x128 (scaleVal m) shapeCasts_S1x128_S1x1x128) }
  have hm : ∀ (k : Fin 128) (r : Fin 8) (z : EReal), m (ix2 r k) ≤ z ↔ 0 ≤ z ∧ ∀ (j : Fin 24) t, mag (col s.u t (row j r) (tok q k)) ≤ z := by
    intro k r z
    rw [h3]
    have : (broadcast S8x128 (Scalar.ofBits (F := Ideal) .f32 0x00000000#32)) (ix2 r k) = (0 : EReal) := by pointwise
    rw [this]
  have hsc : ∀ k : Fin 128, scaleVal m (ix2 0 k) = scaleAt s.u (tok q k) := by
    intro k
    rw [scaleVal_apply, fold_eq_amax s.u q k m (hm k)]
    rfl
  refine ⟨_, U, Q, Runs.bind hr (Runs.bind (Runs.ld focus_scale (fun _ => rfl) _ _ _ _ _) (Runs.bind (Runs.st focus_scale _ _ _ _ _ _) hr')), ?_, ?_, h2, ?_, g2⟩
  · intro k hk
    have ek : k = tok q ⟨k.val % 128, by omega⟩ := Fin.ext (by simp only [tok]; omega)
    refine (put3_hit _ _ 0 0 ⟨k.val % 128, by omega⟩ _ _ _ (by simp) (by simp) (by simp only; omega)).trans ?_
    refine (scaleCast_apply _ _).trans ?_
    rw [hsc, ← ek]
  · intro k hk
    exact put3_miss _ _ _ _ _ (by omega)
  · intro j t r k hk
    have ek : k = tok q ⟨k.val % 128, by omega⟩ := Fin.ext (by simp only [tok]; omega)
    rw [ek]
    refine (g1 j t r _).trans ?_
    show Ideal.liftRound _ (min _ (max _ (U _ * _))) = _
    rw [h1 t _ _ (by simp only [tok]; omega), invVal_apply, hsc]
    rfl

/-- Every block of tokens. -/
theorem cols_runs (h12 : b.a12.IsWhole) (s : St Ideal) :
    ∃ SC U Q, Runs c b (loopN 4 (colStep b.a7 b.a11 b.a12 h12) ⟨⟩) s ⟨⟩ { s with scale := SC, u := U, q := Q }
      ∧ (∀ k : Fin 512, SC (ix3 0 0 k) = scaleAt s.u k)
      ∧ (∀ (j : Fin 24) (t r : Fin 8) (k : Fin 512), Q (ix2 (qrow j t r) k) = codeOf (col s.u t (row j r) k) (scaleAt s.u k)) := by
  obtain ⟨a, s', hr, SC, U, Q, rfl, h1, h2, h3⟩ := Runs.loopN (c := c) (b := b) (f := colStep b.a7 b.a11 b.a12 h12)
    (fun n _ s' => ∃ SC U Q, s' = { s with scale := SC, u := U, q := Q }
      ∧ (∀ k : Fin 512, k.val / 128 < n → SC (ix3 0 0 k) = scaleAt s.u k)
      ∧ (∀ (t : Fin 8) (r : Fin 192) (k : Fin 512), n ≤ k.val / 128 → U (ix3 t r k) = s.u (ix3 t r k))
      ∧ (∀ (j : Fin 24) (t r : Fin 8) (k : Fin 512), k.val / 128 < n → Q (ix2 (qrow j t r) k) = codeOf (col s.u t (row j r) k) (scaleAt s.u k)))
    (by
      rintro g a _ ⟨SC, U, Q, rfl, h1, h2, h3⟩
      obtain ⟨SC', U', Q', hr, g1, g2, g3, g4, g5⟩ := colStep_runs (c := c) (b := b) g h12 { s with scale := SC, u := U, q := Q }
      have hcol : ∀ (t : Fin 8) (r : Fin 192) (k : Fin 512), k.val / 128 = g.val → col U t r k = col s.u t r k := by
        intro t r k h
        unfold col
        congr 1
        funext t
        exact h2 t r k (by omega)
      have hsc : ∀ (k : Fin 512), k.val / 128 = g.val → scaleAt U k = scaleAt s.u k := by
        intro k h
        unfold scaleAt
        congr 2
        funext t r
        exact hcol t r k h
      refine ⟨_, _, hr, _, _, _, rfl, ?_, ?_, ?_⟩
      · intro k hk
        by_cases h : k.val / 128 = g.val
        · rw [g1 k h]; exact hsc k h
        · rw [g2 k h]; exact h1 k (by omega)
      · intro t r k hk
        rw [g3 t r k (by omega)]; exact h2 t r k (by omega)
      · intro j t r k hk
        by_cases h : k.val / 128 = g.val
        · rw [g4 j t r k h]
          show codeOf (col U _ _ _) (scaleAt U k) = _
          rw [hcol _ _ _ h, hsc k h]
        · rw [g5 _ k h]; exact h3 j t r k (by omega))
    ⟨⟩ s ⟨s.scale, s.u, s.q, rfl, fun k h => absurd h (by omega), fun _ _ _ _ => rfl, fun j t r k h => absurd h (by omega)⟩
  exact ⟨SC, U, Q, hr, fun k => h1 k (by omega), fun j t r k => h3 j t r k (by omega)⟩

/-! ## The codes' output -/

/-- The codes are transposed and written out as bytes, group by group. -/
theorem codesOut_runs (h6 : b.a6.IsWhole) (s : St Ideal) : ∃ C, Runs c b (loopN 12 (codesStep b.a6 h6 b.a12) ⟨⟩) s ⟨⟩ { s with codes := C }
    ∧ ∀ (k : Fin 512) (l : Fin 1536), C (ix2 k l) = BitVec.setWidth 8 (FloatOps.fptosi (F := Ideal) (φ := .f32) 32 (s.q (ix2 l k))) := by
  obtain ⟨a, s', hr, C, rfl, hC⟩ := Runs.loopN (c := c) (b := b) (f := codesStep b.a6 h6 b.a12)
    (fun n _ s' => ∃ C, s' = { s with codes := C } ∧ ∀ (k : Fin 512) (l : Fin 1536), l.val < 128 * n →
      C (ix2 k l) = BitVec.setWidth 8 (FloatOps.fptosi (F := Ideal) (φ := .f32) 32 (s.q (ix2 l k))))
    (by
      rintro g a _ ⟨C, rfl, hC⟩
      refine ⟨_, _, Runs.bind (Runs.ld focus_q (fun _ => rfl) _ _ _ _ _) (Runs.bind (Runs.ld focus_codes (fun _ => rfl) _ _ _ _ _) (Runs.st focus_codes _ _ _ _ _ _)),
        _, rfl, ?_⟩
      intro k l hl
      by_cases h : l.val < 128 * g.val
      · exact (put2_miss _ _ k l (by omega)).trans (hC k l h)
      · refine (put2_hit _ _ k ⟨l.val - 128 * g.val, by omega⟩ k l (by simp) (by simp only; omega)).trans ?_
        refine (codesVal_apply _ _ _).trans ?_
        congr 2
        exact window2 s.q _ ⟨l.val - 128 * g.val, by omega⟩ k l k (by simp only; omega) (by simp))
    ⟨⟩ s ⟨s.codes, rfl, fun k l h => absurd h (by omega)⟩
  exact ⟨C, hr, fun k l => hC k l (by omega)⟩

/-! ## The weights -/

/-- The weights: the low nibbles first, then the high ones, each scaled by its group of 128. -/
def wAll (wp : IVec S576x768 8) (ws : FVec Ideal S576x12 .f32) : FVec Ideal S576x1536 .bf16 := fun i =>
  (if h : (i 1).val < 768 then nib (IntOp.andi (BitVec.setWidth 32 (wp (ix2 (i 0) ⟨(i 1).val, h⟩))) 15#32)
    else nib (IntOp.andi (IntOp.shrsi .vector (BitVec.setWidth 32 (wp (ix2 (i 0) ⟨(i 1).val - 768, by have : (i 1).val < 1536 := (i 1).isLt; omega⟩))) 4#32) 15#32))
  * ws (ix2 (i 0) ⟨(i 1).val / 128, by have : (i 1).val < 1536 := (i 1).isLt; omega⟩)

/-- A store of a group of 128 weight columns. -/
theorem stW_runs (h9 : b.a9.IsWhole) (g : Fin 12) (v : FVec Ideal S576x128 .bf16) (s : St Ideal) :
    Runs c b (stW b.a9 h9 g v) s ⟨⟩ { s with w := VecWindow.put s.w ![0, 128 * g.val] S576x128.size v } :=
  Runs.bind (Runs.ld focus_w (fun _ => rfl) _ _ _ _ _) (Runs.st focus_w _ _ _ _ _ _)

/-- The first grid point writes the rotation and the weights. -/
theorem prep_runs (h8 : b.a8.IsWhole) (h9 : b.a9.IsWhole) (s : St Ideal) :
    Runs c b (prep b.a2 b.a3 b.a4 b.a8 h8 b.a9 h9) s ⟨⟩ { s with rot := rotVal (F := Ideal) s.had, w := wAll s.wp s.ws } := by
  let wp : IVec S576x768 32 := extui 32 s.wp natLt_8_32
  let ws : FVec Ideal S576x12 .f32 := extf .f32 (truncf .bf16 s.ws bitsLt_bf16_f32) bitsLt_bf16_f32
  have hws : ∀ i, ws i = s.ws i := fun i => rfl
  have hwp : ∀ i, wp i = BitVec.setWidth 32 (s.wp i) := fun i => rfl
  have lo : ∀ s0 : St Ideal, ∃ W, Runs c b (loopN 6 (fun g _ => stW b.a9 h9 ⟨g.val, by omega⟩ (wBlock (lowNib wp g) (scaleCol ws ⟨g.val, by omega⟩))) ⟨⟩) s0 ⟨⟩ { s0 with w := W }
      ∧ ∀ (n : Fin 576) (l : Fin 1536), l.val < 768 → W (ix2 n l) = wAll s.wp s.ws (ix2 n l) := by
    intro s0
    obtain ⟨a, s', hr, W, rfl, hW⟩ := Runs.loopN (c := c) (b := b) (f := fun (g : Fin 6) _ => stW b.a9 h9 ⟨g.val, by omega⟩ (wBlock (lowNib wp g) (scaleCol ws ⟨g.val, by omega⟩)))
      (fun n _ s' => ∃ W, s' = { s0 with w := W } ∧ ∀ (k : Fin 576) (l : Fin 1536), l.val < 128 * n → l.val < 768 → W (ix2 k l) = wAll s.wp s.ws (ix2 k l))
      (by
        rintro g a _ ⟨W, rfl, hW⟩
        refine ⟨_, _, stW_runs h9 _ _ _, _, rfl, ?_⟩
        intro k l hl hl'
        by_cases h : l.val < 128 * g.val
        · exact (put2_miss _ _ k l (by simp only; omega)).trans (hW k l h hl')
        · refine (put2_hit _ _ k ⟨l.val - 128 * g.val, by omega⟩ k l (by simp) (by simp only; omega)).trans ?_
          rw [wBlock_apply, lowNib_apply, scaleCol_apply, hws, hwp]
          unfold wAll
          rw [dif_pos (show ((ix2 k l : S576x1536.Idx) 1).val < 768 from hl')]
          have e1 : (⟨128 * g.val + (l.val - 128 * g.val), by omega⟩ : Fin 768) = ⟨l.val, hl'⟩ := Fin.ext (by simp only; omega)
          have e2 : (⟨g.val, by omega⟩ : Fin 12) = ⟨l.val / 128, by omega⟩ := Fin.ext (by simp only; omega)
          rw [e2]
          simp only [e1]
          rfl)
      ⟨⟩ s0 ⟨s0.w, rfl, fun k l h => absurd h (by omega)⟩
    exact ⟨W, hr, fun n l hl => hW n l (by omega) hl⟩
  have hi : ∀ s0 : St Ideal, ∃ W, Runs c b (loopN 6 (fun g _ => stW b.a9 h9 ⟨g.val + 6, by omega⟩ (wBlock (highNib wp g) (scaleCol ws ⟨g.val + 6, by omega⟩))) ⟨⟩) s0 ⟨⟩ { s0 with w := W }
      ∧ ∀ (n : Fin 576) (l : Fin 1536), W (ix2 n l) = if l.val < 768 then s0.w (ix2 n l) else wAll s.wp s.ws (ix2 n l) := by
    intro s0
    obtain ⟨a, s', hr, W, rfl, hW, hW'⟩ := Runs.loopN (c := c) (b := b) (f := fun (g : Fin 6) _ => stW b.a9 h9 ⟨g.val + 6, by omega⟩ (wBlock (highNib wp g) (scaleCol ws ⟨g.val + 6, by omega⟩)))
      (fun n _ s' => ∃ W, s' = { s0 with w := W } ∧ (∀ (k : Fin 576) (l : Fin 1536), l.val < 768 + 128 * n → ¬ l.val < 768 → W (ix2 k l) = wAll s.wp s.ws (ix2 k l))
        ∧ (∀ (k : Fin 576) (l : Fin 1536), l.val < 768 → W (ix2 k l) = s0.w (ix2 k l)))
      (by
        rintro g a _ ⟨W, rfl, hW, hW'⟩
        refine ⟨_, _, stW_runs h9 _ _ _, _, rfl, ?_, ?_⟩
        · intro k l hl hl'
          by_cases h : l.val < 768 + 128 * g.val
          · exact (put2_miss _ _ k l (by simp only; omega)).trans (hW k l h hl')
          · refine (put2_hit _ _ k ⟨l.val - 128 * (g.val + 6), by omega⟩ k l (by simp) (by simp only; omega)).trans ?_
            rw [wBlock_apply, highNib_apply, scaleCol_apply, hws, hwp]
            unfold wAll
            rw [dif_neg (show ¬ ((ix2 k l : S576x1536.Idx) 1).val < 768 from hl')]
            have e1 : (⟨128 * g.val + (l.val - 128 * (g.val + 6)), by omega⟩ : Fin 768) = ⟨l.val - 768, by omega⟩ := Fin.ext (by simp only; omega)
            have e2 : (⟨g.val + 6, by omega⟩ : Fin 12) = ⟨l.val / 128, by omega⟩ := Fin.ext (by simp only; omega)
            rw [e2]
            simp only [e1]
            rfl
        · intro k l hl
          exact (put2_miss _ _ k l (by simp only; omega)).trans (hW' k l hl))
      ⟨⟩ s0 ⟨s0.w, rfl, fun k l h h' => absurd h' (by omega), fun _ _ _ => rfl⟩
    refine ⟨W, hr, fun n l => ?_⟩
    split
    · exact hW' n l ‹_›
    · exact hW n l (by omega) ‹_›
  obtain ⟨W1, hr1, h1⟩ := lo { s with rot := rotVal (F := Ideal) s.had }
  obtain ⟨W2, hr2, h2⟩ := hi { s with rot := rotVal (F := Ideal) s.had, w := W1 }
  have e : W2 = wAll s.wp s.ws := by
    funext i
    rw [eq_ix2 i]
    refine (h2 (i 0) (i 1)).trans ?_
    split
    · exact h1 _ _ ‹_›
    · rfl
  subst e
  refine Runs.bind (Runs.ld focus_had (fun _ => rfl) _ _ _ _ _) (Runs.bind (Runs.ld focus_rot (fun _ => rfl) _ _ _ _ _)
    (Runs.bind (s' := { s with rot := rotVal (F := Ideal) s.had }) (a := ⟨⟩) ?_ (Runs.bind (Runs.ld focus_wp (fun _ => rfl) _ _ _ _ _) (Runs.bind (Runs.ld focus_ws (fun _ => rfl) _ _ _ _ _) ?_))))
  · have := Runs.st (c := c) (b := b) focus_rot ![0, 0] S192x192.size inb_S192x192_S192x192_0_0 (rotVal (F := Ideal) s.had)
      (View.stores_vmem h_S192x192 (h8.storeExact_slice rfl _ packedbf16_S192x192_S192x192_0_0) (fun _ => rfl)) s
    rw [put_whole _ _ inb_S192x192_S192x192_0_0] at this
    rw [window_whole]
    exact this
  · rw [window_whole, window_whole]
    exact Runs.bind hr1 hr2

/-! ## The whole body -/

/-- The rotated value of the token `k` at the row `r` of the slab `t`. -/
def rotated (x : FVec Ideal S512x1536 .bf16) (rot : FVec Ideal S192x192 .bf16) (t : Fin 8) (r : Fin 192) (k : Fin 512) : EReal :=
  whtS (fun t => ∑ l : Fin 192, rot (ix2 r l) * x (ix2 k (chan t l))) t

/-- The scale of the token `k`. -/
def scAt (x : FVec Ideal S512x1536 .bf16) (rot : FVec Ideal S192x192 .bf16) (k : Fin 512) : EReal := scaleOf (amax fun t r => rotated x rot t r k)

/-- The code of the token `k` at the channel `l`. -/
def codeAt (x : FVec Ideal S512x1536 .bf16) (rot : FVec Ideal S192x192 .bf16) (k : Fin 512) (l : Fin 1536) : EReal :=
  codeOf (rotated x rot ⟨l.val % 64 / 8, by omega⟩ ⟨8 * (l.val / 64) + l.val % 8, by omega⟩ k) (scAt x rot k)

/-- The scales of a block of tokens. -/
def scaleOut (x : FVec Ideal S512x1536 .bf16) (rot : FVec Ideal S192x192 .bf16) : FVec Ideal S1x1x512 .f32 := fun i => scAt x rot (i 2)

/-- The codes of a block of tokens. -/
def codesOut (x : FVec Ideal S512x1536 .bf16) (rot : FVec Ideal S192x192 .bf16) : IVec S512x1536 8 := fun i =>
  BitVec.setWidth 8 (FloatOps.fptosi (F := Ideal) (φ := .f32) 32 (codeAt x rot (i 0) (i 1)))

/-- The projection of a block of tokens. -/
def yOut (x : FVec Ideal S512x1536 .bf16) (rot : FVec Ideal S192x192 .bf16) (w : FVec Ideal S576x1536 .bf16) : FVec Ideal S512x576 .bf16 := fun i =>
  (∑ l : Fin 1536, w (ix2 (i 1) l) * codeAt x rot (i 0) l) * scAt x rot (i 0)

/-- Every grid point writes the three output blocks from the activations, the rotation and the weights. -/
theorem rest_runs (h5 : b.a5.IsWhole) (h6 : b.a6.IsWhole) (h12 : b.a12.IsWhole) (s : St Ideal) :
    ∃ X U Q, Runs c b (rest b.a1 b.a5 h5 b.a6 h6 b.a7 b.a8 b.a9 b.a10 b.a11 b.a12 h12) s ⟨⟩
      { s with y := yOut s.x s.rot s.w, codes := codesOut s.x s.rot, scale := scaleOut s.x s.rot, xt := X, u := U, q := Q } := by
  obtain ⟨X, hr1, hX⟩ := xt_runs (c := c) (b := b) s
  obtain ⟨U, hr2, hU⟩ := mm_runs (c := c) (b := b) s.rot { s with xt := X }
  obtain ⟨SC, U', Q, hr3, hSC, hQ⟩ := cols_runs (c := c) (b := b) h12 { s with xt := X, u := U }
  have hcol : ∀ (t : Fin 8) (r : Fin 192) (k : Fin 512), col U t r k = rotated s.x s.rot t r k := by
    intro t r k
    unfold col rotated
    congr 1
    funext t
    rw [hU]
    exact Finset.sum_congr rfl fun l _ => congrArg _ (hX _ _)
  have hsc : ∀ k : Fin 512, scaleAt U k = scAt s.x s.rot k := by
    intro k
    unfold scaleAt scAt
    congr 2
    funext t r
    exact hcol t r k
  have eSC : SC = scaleOut s.x s.rot := by
    funext i
    obtain ⟨k, rfl⟩ : ∃ k : Fin 512, i = ix3 0 0 k := ⟨i 2, by
      rw [eq_ix3 i]
      congr 1
      · exact Subsingleton.elim (α := Fin 1) _ _
      · exact Subsingleton.elim (α := Fin 1) _ _⟩
    exact (hSC k).trans (hsc k)
  have eQ : ∀ (l : Fin 1536) (k : Fin 512), Q (ix2 l k) = codeAt s.x s.rot k l := by
    intro l k
    have el : l = qrow ⟨l.val / 64, by omega⟩ ⟨l.val % 64 / 8, by omega⟩ ⟨l.val % 8, by omega⟩ := Fin.ext (by simp only [qrow]; omega)
    conv_lhs => rw [el]
    refine (hQ _ _ _ k).trans ?_
    show codeOf (col U _ _ _) (scaleAt U k) = _
    rw [hcol, hsc]
    rfl
  obtain ⟨C, hr4, hC⟩ := codesOut_runs (c := c) (b := b) h6 { s with xt := X, scale := SC, u := U', q := Q, y := yVal (F := Ideal) s.w Q SC }
  have eC : C = codesOut s.x s.rot := by
    funext i
    rw [eq_ix2 i]
    refine (hC (i 0) (i 1)).trans ?_
    exact congrArg (fun z => BitVec.setWidth 8 (FloatOps.fptosi (F := Ideal) (φ := .f32) 32 z)) (eQ (i 1) (i 0))
  have eY : yVal (F := Ideal) s.w Q SC = yOut s.x s.rot s.w := by
    funext i
    rw [eq_ix2 i]
    refine (yVal_apply s.w Q SC (i 0) (i 1)).trans ?_
    rw [eSC]
    exact congrArg (· * scAt s.x s.rot (i 0)) (Finset.sum_congr rfl fun l _ => congrArg _ (eQ l (i 0)))
  refine ⟨X, U', Q, Runs.bind hr1 (Runs.bind (Runs.ld focus_rot (fun _ => rfl) _ _ _ _ _) (Runs.bind (a := ⟨⟩) (s' := { s with xt := X, u := U }) ?_
    (Runs.bind hr3 (Runs.bind (Runs.ld focus_w (fun _ => rfl) _ _ _ _ _) (Runs.bind (Runs.ld focus_q (fun _ => rfl) _ _ _ _ _)
      (Runs.bind (Runs.ld focus_scale (fun _ => rfl) _ _ _ _ _) (Runs.bind (Runs.ld focus_y (fun _ => rfl) _ _ _ _ _)
        (Runs.bind (a := ⟨⟩) (s' := { s with xt := X, scale := SC, u := U', q := Q, y := yVal (F := Ideal) s.w Q SC }) ?_ ?_))))))))⟩
  · rw [window_whole]; exact hr2
  · rw [window_whole, window_whole, window_whole]
    have := Runs.st (c := c) (b := b) focus_y ![0, 0] S512x576.size inb_S512x576_S512x576_0_0 (yVal (F := Ideal) s.w Q SC)
      (View.stores_vmem h_S512x576 (h5.storeExact_slice rfl _ packedbf16_S512x576_S512x576_0_0) (fun _ => rfl))
      { s with xt := X, scale := SC, u := U', q := Q }
    rw [put_whole _ _ inb_S512x576_S512x576_0_0] at this
    exact this
  · rw [← eY, ← eC, ← eSC]
    exact hr4

end Cert.KernelIdeal.Rolled

end
-- ==== Proof.Launch.lean ====
/- The run of the kernel over the extended reals, with what every result holds: each grid point leaves `yOut`, `codesOut` and
   `scaleOut` of its block of the activations in the three result blocks; the rotation matrix and the scaled weights, written at
   the first point, are carried to all others. -/
module

public import proofs.«01_k».proof.Proof.Gen.KernelIdeal.Frame.Runs
public import proofs.«01_k».proof.Proof.RolledEq
public import proofs.«01_k».proof.Proof.Body
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rolled

local notation "𝕄" => MT nD τ sig Unit (Elt Ideal) ℕ (UR sig nD τ) ℕ

variable (m : (ℓ : Loc nD τ sig) → Buf (Elt Ideal) ℓ) (ρ : Dev nD → PrngReg)

/-- The block of activations at point `t`. -/
abbrev xAt (c : Dev nD) (t : Fin cfg0.N) : FVec Ideal S512x1536 .bf16 := iblk m c 0 t

/-- The first grid point. -/
def first : Fin cfg0.N := ⟨0, lt_of_lt_of_eq (by omega) N_0.symm⟩

/-- The rotation matrix: what the first point writes, from its block of the Hadamard matrix. -/
def rotC (c : Dev nD) : FVec Ideal S192x192 .bf16 := rotVal (F := Ideal) (iblk m c 1 first)

/-- The scaled weights: what the first point writes, from its blocks of the packed weights and their scales. -/
def wC (c : Dev nD) : FVec Ideal S576x1536 .bf16 := wAll (iblk m c 2 first) (iblk m c 3 first)

/-- The scoped buffers after a point: the carried ones at their contents, the others at anything. -/
def carried (c : Dev nD) : sProp 𝕄 :=
  iprop(iprop(owns (c : Thread nD τ) scM0_0 fullShare (rotC m c) ∗ owns (c : Thread nD τ) scM0_1 fullShare (wC m c) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- The invariant before position `n`. -/
def PhiS (c : Dev nD) : (n : ℕ) → n ≤ cfg0.N → sProp 𝕄
  | 0, _ => Pipeline.ΦA spec0 c
  | n + 1, _ => carried m c

/-- Before the first point nothing is known of the scratch buffers. -/
theorem PhiS_zero (c : Dev nD) (n : ℕ) (h : n ≤ cfg0.N) (hz : n = 0) : PhiS m c n h = Pipeline.ΦA spec0 c := by
  subst hz; rfl

/-- After a point the scratch buffers hold the rotation and the weights. -/
theorem PhiS_succ (c : Dev nD) (n : ℕ) (hn : n < cfg0.N) : PhiS m c (n + 1) hn = carried m c := rfl

/-- Before every point but the first the scratch buffers hold the rotation and the weights. -/
theorem PhiS_pos (c : Dev nD) (n : ℕ) (h : n ≤ cfg0.N) (hz : n ≠ 0) : PhiS m c n h = carried m c := by
  cases n with
  | zero => exact absurd rfl hz
  | succ n => rfl

/-- The proof data: the arrays as the region finds them, and after the body at point `t` the inputs at their blocks and the
    results at what `rest_runs` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOut (xAt m c t) (rotC m c) (wC m c)
    | ⟨5, _⟩ => codesOut (xAt m c t) (rotC m c)
    | ⟨6, _⟩ => scaleOut (xAt m c t) (rotC m c)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Window 1 after a point: its input block. -/
theorem after0_1 (c : Dev nD) (t : Fin cfg0.N) : (dats m 0 c).after 1 t = iblk m c 1 t := by dsimp only [dats]
/-- Window 2 after a point: its input block. -/
theorem after0_2 (c : Dev nD) (t : Fin cfg0.N) : (dats m 0 c).after 2 t = iblk m c 2 t := by dsimp only [dats]
/-- Window 3 after a point: its input block. -/
theorem after0_3 (c : Dev nD) (t : Fin cfg0.N) : (dats m 0 c).after 3 t = iblk m c 3 t := by dsimp only [dats]
/-- The projection window after a point. -/
theorem after0_4 (c : Dev nD) (t : Fin cfg0.N) : (dats m 0 c).after 4 t = yOut (xAt m c t) (rotC m c) (wC m c) := by dsimp only [dats]
/-- The codes window after a point. -/
theorem after0_5 (c : Dev nD) (t : Fin cfg0.N) : (dats m 0 c).after 5 t = codesOut (xAt m c t) (rotC m c) := by dsimp only [dats]
/-- The scales window after a point. -/
theorem after0_6 (c : Dev nD) (t : Fin cfg0.N) : (dats m 0 c).after 6 t = scaleOut (xAt m c t) (rotC m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 before a point: its input block. -/
theorem before0_1 (c : Dev nD) (t : Fin cfg0.N) (d) : (dats m 0 c).before 1 t d = iblk m c 1 t :=
  before0_1_of m (dats m 0 c) (A_eq m c 1) (after0_1 m c) t d
/-- Window 2 before a point: its input block. -/
theorem before0_2 (c : Dev nD) (t : Fin cfg0.N) (d) : (dats m 0 c).before 2 t d = iblk m c 2 t :=
  before0_2_of m (dats m 0 c) (A_eq m c 2) (after0_2 m c) t d
/-- Window 3 before a point: its input block. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The twelve buffers of the body at point `t`. -/
abbrev bufs (t : Fin cfg0.N) : Bufs :=
  ⟨ms0_0 t, ms0_1 t, ms0_2 t, ms0_3 t, ms0_4 t, ms0_5 t, ms0_6 t, scM0_0, scM0_1, scM0_2, scM0_3, scM0_4⟩

set_option maxHeartbeats 1600000 in
/-- The body at any point: at the first the preparation and the rest, at any other the rest over what is carried. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, body_eq]
  have hN : t.val < 32 := lt_of_lt_of_eq t.isLt (show cfg0.N = 32 from N_0)
  unfold Rolled.body
  by_cases hz : t.val = 0
  · rw [if_pos (show isFirst (grid0.coords t) from (hcond0_0 t).mpr (by omega))]
    rw [PhiS_castSucc m c t, PhiS_zero m c _ _ hz, PhiA0_eq]
    obtain rfl : t = first := Fin.ext hz
    unfold carried
    iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩⟩
    obtain ⟨X, U, Q, hr⟩ := rest_runs (c := c) (b := bufs first) (hs0_4 first) (hs0_5 first) (Memref.isWhole_whole _) (⟨iblk m c 0 first, iblk m c 1 first, iblk m c 2 first, iblk m c 3 first, ((dats m 0 c).before 4 first d4), ((dats m 0 c).before 5 first d5), ((dats m 0 c).before 6 first d6), rotC m c, wC m c, e2, e3, e4⟩ : St Ideal)
    have hp := prep_runs (c := c) (b := bufs first) (Memref.isWhole_whole _) (Memref.isWhole_whole _) (⟨iblk m c 0 first, iblk m c 1 first, iblk m c 2 first, iblk m c 3 first, ((dats m 0 c).before 4 first d4), ((dats m 0 c).before 5 first d5), ((dats m 0 c).before 6 first d6), e0, e1, e2, e3, e4⟩ : St Ideal)
    iapply ((Runs.bind hp hr) Set.univ _)
    unfold Rolled.own
    isplitl [H0 H1 H2 H3 H4 H5 H6 HS0 HS1 HS2 HS3 HS4]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexists _; iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg (show ¬ isFirst (grid0.coords t) from fun h => by have := (hcond0_0 t).mp h; omega)]
    rw [PhiS_castSucc m c t, PhiS_pos m c _ _ hz]
    unfold carried
    iintro ⟨⟨⟨HS0, HS1, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩⟩
    obtain ⟨X, U, Q, hr⟩ := rest_runs (c := c) (b := bufs t) (hs0_4 t) (hs0_5 t) (Memref.isWhole_whole _) (⟨iblk m c 0 t, iblk m c 1 t, iblk m c 2 t, iblk m c 3 t, ((dats m 0 c).before 4 t d4), ((dats m 0 c).before 5 t d5), ((dats m 0 c).before 6 t d6), rotC m c, wC m c, e2, e3, e4⟩ : St Ideal)
    iapply (hr Set.univ _)
    unfold Rolled.own
    isplitl [H0 H1 H2 H3 H4 H5 H6 HS0 HS1 HS2 HS3 HS4]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexists _; iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq, carried]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Launch

end
-- ==== Proof.Token.lean ====
/- One token over the extended reals: the rotation in two factors (eight-point signs inside a slab, the staged transform
   across the slabs) against the plain rotation, at every input, infinite ones included. -/
module

public import proofs.«01_k».proof.Proof.Body

@[expose] public section

noncomputable section

namespace Cert.KernelIdeal.Rolled

open Idealize.ShloMosaic
open Cert.KernelIdeal

/-! ## Infinite values -/

/-- The value is infinite. -/
def Inf (a : EReal) : Prop := a = ⊤ ∨ a = ⊥

/-- A real is not infinite. -/
theorem Inf.not_coe (r : ℝ) : ¬ Inf (r : EReal) := by simp [Inf]

/-- What is not infinite is a real. -/
theorem not_inf {a : EReal} (h : ¬ Inf a) : ∃ r : ℝ, a = r := by
  induction a using EReal.rec with
  | bot => exact absurd (Or.inr rfl) h
  | top => exact absurd (Or.inl rfl) h
  | coe r => exact ⟨r, rfl⟩

/-- A sum is infinite if and only if a term is. -/
theorem inf_add (a b : EReal) : Inf (a + b) ↔ Inf a ∨ Inf b := by
  induction a using EReal.rec <;> induction b using EReal.rec <;> simp [Inf, ← EReal.coe_add]

/-- A negative is infinite if and only if the number is. -/
theorem inf_neg (a : EReal) : Inf (-a) ↔ Inf a := by
  induction a using EReal.rec <;> simp [Inf, ← EReal.coe_neg]

/-- A difference is infinite if and only if a term is. -/
theorem inf_sub (a b : EReal) : Inf (a - b) ↔ Inf a ∨ Inf b := by
  rw [sub_eq_add_neg, inf_add, inf_neg]

/-- A finite sum is infinite if and only if a term is. -/
theorem inf_sum {ι : Type} (s : Finset ι) (f : ι → EReal) : Inf (∑ i ∈ s, f i) ↔ ∃ i ∈ s, Inf (f i) := by
  classical
  induction s using Finset.induction_on with
  | empty => simp [Inf]
  | insert a s ha ih => rw [Finset.sum_insert ha, inf_add, ih]; simp

/-- An infinite number times a nonzero one is infinite. -/
theorem inf_mul_of {a b : EReal} (ha : Inf a) (hb : b ≠ 0) : Inf (a * b) := by
  induction b using EReal.rec with
  | bot => rcases ha with rfl | rfl <;> simp [Inf]
  | top => rcases ha with rfl | rfl <;> simp [Inf]
  | coe r =>
    have hr : r ≠ 0 := fun h => hb (by rw [h]; rfl)
    rcases lt_or_gt_of_ne hr with h | h
    · rcases ha with rfl | rfl
      · exact .inr (EReal.top_mul_coe_of_neg h)
      · exact .inl (EReal.bot_mul_coe_of_neg h)
    · rcases ha with rfl | rfl
      · exact .inl (EReal.top_mul_coe_of_pos h)
      · exact .inr (EReal.bot_mul_coe_of_pos h)

/-- A product is infinite if and only if one factor is and the other is not zero. -/
theorem inf_mul (a b : EReal) : Inf (a * b) ↔ (Inf a ∧ b ≠ 0) ∨ (Inf b ∧ a ≠ 0) := by
  constructor
  · intro h
    by_cases ha : a = 0
    · rw [ha, zero_mul] at h; exact absurd h (Inf.not_coe 0)
    by_cases hb : b = 0
    · rw [hb, mul_zero] at h; exact absurd h (Inf.not_coe 0)
    by_contra hn
    have h1 : ¬ Inf a := fun h' => hn (.inl ⟨h', hb⟩)
    have h2 : ¬ Inf b := fun h' => hn (.inr ⟨h', ha⟩)
    obtain ⟨r, rfl⟩ := not_inf h1
    obtain ⟨s, rfl⟩ := not_inf h2
    rw [← EReal.coe_mul] at h
    exact Inf.not_coe _ h
  · rintro (⟨h, hb⟩ | ⟨h, ha⟩)
    · exact inf_mul_of h hb
    · rw [mul_comm]; exact inf_mul_of h ha

/-- The magnitude of an infinite number is the greatest extended real. -/
theorem mag_inf {a : EReal} (h : Inf a) : mag a = ⊤ := by
  unfold mag
  rcases h with rfl | rfl <;> simp

/-- The magnitude of a real is not infinite. -/
theorem mag_not_inf {a : EReal} (h : ¬ Inf a) : ¬ Inf (mag a) := by
  obtain ⟨r, rfl⟩ := not_inf h
  unfold mag
  rw [← EReal.coe_neg, ← EReal.coe_strictMono.monotone.map_max]
  exact Inf.not_coe _

/-! ## The signs -/

/-- The sign of an entry of the sixty-four-point transform: the product of those of its two halves. -/
def hs (q p : Fin 64) : ℤ := sg ⟨q.val / 8, by omega⟩ ⟨p.val / 8, by omega⟩ * sg ⟨q.val % 8, by omega⟩ ⟨p.val % 8, by omega⟩

/-- A sign is not zero. -/
theorem sg_ne (a b : Fin 8) : sg a b ≠ 0 := by revert a b; decide +kernel

/-- A sign squares to one. -/
theorem sg_mul_self (a b : Fin 8) : sg a b * sg a b = 1 := by revert a b; decide +kernel

/-- A sign of the sixty-four-point transform is not zero. -/
theorem hs_ne (q p : Fin 64) : hs q p ≠ 0 := mul_ne_zero (sg_ne _ _) (sg_ne _ _)

/-- The staged transform of reals is the transform by signs. -/
theorem whtS_coe (u : Fin 8 → ℝ) (t : Fin 8) : whtS (fun t => (u t : EReal)) t = ((∑ t' : Fin 8, (sg t t' : ℝ) * u t' : ℝ) : EReal) := by
  have e : ∀ a b, sg a b = (![![1, 1, 1, 1, 1, 1, 1, 1],
      ![1, -1, 1, -1, 1, -1, 1, -1],
      ![1, 1, -1, -1, 1, 1, -1, -1],
      ![1, -1, -1, 1, 1, -1, -1, 1],
      ![1, 1, 1, 1, -1, -1, -1, -1],
      ![1, -1, 1, -1, -1, 1, -1, 1],
      ![1, 1, -1, -1, -1, -1, 1, 1],
      ![1, -1, -1, 1, -1, 1, 1, -1]] : Fin 8 → Fin 8 → ℤ) a b := by
    decide +kernel
  simp only [e]
  unfold whtS
  rw [Fin.sum_univ_eight]
  fin_cases t <;>
    · simp [-EReal.coe_add, -EReal.coe_sub]
      simp only [← EReal.coe_add, ← EReal.coe_sub]
      congr 1
      ring

/-- A butterfly of eight is infinite if and only if an entry is. -/
theorem inf_whtS (f : Fin 8 → EReal) (t : Fin 8) : Inf (whtS f t) ↔ ∃ t', Inf (f t') := by
  have e : (∃ t', Inf (f t')) ↔ Inf (f 0) ∨ Inf (f 1) ∨ Inf (f 2) ∨ Inf (f 3) ∨ Inf (f 4) ∨ Inf (f 5) ∨ Inf (f 6) ∨ Inf (f 7) := by
    simp only [Fin.exists_fin_succ, IsEmpty.exists_iff, or_false]
    exact Iff.rfl
  rw [e]
  unfold whtS
  fin_cases t <;> simp [inf_add, inf_sub, or_assoc]

/-! ## Sums over a split index -/

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over an index is the sum over its quotient and its remainder. -/
theorem sum_divmod {M : Type} [AddCommMonoid M] (a b : ℕ) (f : Fin a → Fin b → M) :
    ∑ l : Fin (a * b), f l.divNat l.modNat = ∑ i : Fin a, ∑ j : Fin b, f i j := by
  rw [← Fintype.sum_prod_type' f]
  exact Fintype.sum_equiv finProdFinEquiv.symm _ _ fun l => rfl

/-- The columns of the eight-point transform are orthogonal. -/
theorem sg_orth : ∀ p p' : Fin 8, ∑ q : Fin 8, sg q p * sg q p' = if p = p' then 8 else 0 := by decide +kernel

/-- The columns of the sixty-four-point transform are orthogonal. -/
theorem hs_orth (p p' : Fin 64) : ∑ q : Fin 64, hs q p * hs q p' = if p = p' then 64 else 0 := by
  have e := sum_divmod 8 8 fun a b : Fin 8 => (sg a ⟨p.val / 8, by omega⟩ * sg a ⟨p'.val / 8, by omega⟩) * (sg b ⟨p.val % 8, by omega⟩ * sg b ⟨p'.val % 8, by omega⟩)
  simp only [← Finset.mul_sum, ← Finset.sum_mul, sg_orth] at e
  refine (Finset.sum_congr rfl fun q _ => ?_).trans (e.trans ?_)
  · unfold hs
    show _ * _ * (_ * _) = _
    exact mul_mul_mul_comm _ _ _ _
  · by_cases h : p = p'
    · subst h; simp
    · rw [if_neg h]
      have : ¬ (p.val / 8 = p'.val / 8 ∧ p.val % 8 = p'.val % 8) := fun hh => h (Fin.ext (by omega))
      by_cases h1 : p.val / 8 = p'.val / 8
      · have h2 : p.val % 8 ≠ p'.val % 8 := fun hh => this ⟨h1, hh⟩
        simp [h2]
      · simp [h1]

/-! ## The rotation of a token -/

section Rotation

variable (H : Fin 24 → Fin 24 → EReal) (x : Fin 24 → Fin 64 → EReal)

/-- The rotated token, in two factors: the eight-point signs inside each slab, then the staged transform across the slabs. -/
def kel (j : Fin 24) (q : Fin 64) : EReal :=
  whtS (fun t => ∑ l : Fin 192, H j ⟨l.val / 8, by omega⟩ * ((sg ⟨q.val % 8, by omega⟩ ⟨l.val % 8, by omega⟩ : ℤ) : ℝ)
    * x ⟨l.val / 8, by omega⟩ ⟨8 * t.val + l.val % 8, by omega⟩) ⟨q.val / 8, by omega⟩

/-- The rotated token, plainly: the sixty-four-point transform, then the Hadamard matrix. -/
def rel (j : Fin 24) (q : Fin 64) : EReal := ∑ k : Fin 24, H j k * ∑ p : Fin 64, ((hs q p : ℤ) : ℝ) * x k p

variable {H x}

/-- Where every product of an entry of the matrix with an activation is finite, its row's products sum as reals. -/
theorem row_coe {j k : Fin 24} {T : Fin 64 → ℝ} (hT : ∀ p, H j k * x k p = T p) (s : Fin 64 → ℝ) :
    H j k * ∑ p : Fin 64, (s p : EReal) * x k p = ((∑ p : Fin 64, s p * T p : ℝ) : EReal) := by
  by_cases h0 : H j k = 0
  · have : ∀ p, T p = 0 := fun p => by have := hT p; rw [h0, zero_mul] at this; exact_mod_cast this.symm
    simp [h0, this]
  by_cases hi : Inf (H j k)
  · have hx : ∀ p, x k p = 0 := fun p => by
      by_contra hp
      exact Inf.not_coe (T p) (hT p ▸ inf_mul_of hi hp)
    have : ∀ p, T p = 0 := fun p => by have := hT p; rw [hx, mul_zero] at this; exact_mod_cast this.symm
    simp [hx, this]
  · obtain ⟨h, hh⟩ := not_inf hi
    have hx : ∀ p, ∃ r : ℝ, x k p = r := fun p => not_inf fun hp => Inf.not_coe (T p) (hT p ▸ (by rw [mul_comm]; exact inf_mul_of hp h0))
    choose xr hxr using hx
    have hT' : ∀ p, T p = h * xr p := fun p => by have := hT p; rw [hh, hxr, ← EReal.coe_mul] at this; exact_mod_cast this.symm
    simp only [hxr, hT', hh, ← EReal.coe_mul]
    rw [← coe_sum, ← EReal.coe_mul, Finset.mul_sum]
    congr 1
    exact Finset.sum_congr rfl fun p _ => by ring

/-- Where the products are finite the two rotations agree. -/
theorem kel_eq_rel (hfin : ∀ j k p, ¬ Inf (H j k * x k p)) (j : Fin 24) (q : Fin 64) : kel H x j q = rel H x j q := by
  choose T hT using fun j k p => not_inf (hfin j k p)
  have e1 : rel H x j q = ((∑ k : Fin 24, ∑ p : Fin 64, (hs q p : ℝ) * T j k p : ℝ) : EReal) := by
    unfold rel
    rw [coe_sum]
    exact Finset.sum_congr rfl fun k _ => row_coe (hT j k) _
  have e2 : kel H x j q = ((∑ t : Fin 8, (sg ⟨q.val / 8, by omega⟩ t : ℝ) * ∑ l : Fin 192, (sg ⟨q.val % 8, by omega⟩ ⟨l.val % 8, by omega⟩ : ℝ)
      * T j ⟨l.val / 8, by omega⟩ ⟨8 * t.val + l.val % 8, by omega⟩ : ℝ) : EReal) := by
    rw [← whtS_coe]
    unfold kel
    congr 1
    funext t
    rw [coe_sum]
    refine Finset.sum_congr rfl fun l _ => ?_
    rw [mul_assoc, mul_left_comm, hT, ← EReal.coe_mul]
  rw [e1, e2]
  congr 1
  have e3 : ∀ k : Fin 24, (∑ p : Fin 64, (hs q p : ℝ) * T j k p) = ∑ t : Fin 8, ∑ r : Fin 8,
      (sg ⟨q.val / 8, by omega⟩ t : ℝ) * ((sg ⟨q.val % 8, by omega⟩ r : ℝ) * T j k ⟨8 * t.val + r.val, by omega⟩) := fun k => by
    rw [← sum_divmod 8 8 fun t r : Fin 8 => (sg ⟨q.val / 8, by omega⟩ t : ℝ) * ((sg ⟨q.val % 8, by omega⟩ r : ℝ) * T j k ⟨8 * t.val + r.val, by omega⟩)]
    refine Finset.sum_congr rfl fun p _ => ?_
    have hp : (⟨8 * (Fin.divNat (m := 8) (n := 8) p).val + (Fin.modNat (m := 8) (n := 8) p).val, by have := (Fin.divNat (m := 8) (n := 8) p).isLt; have := (Fin.modNat (m := 8) (n := 8) p).isLt; omega⟩ : Fin 64) = p :=
      Fin.ext (Nat.div_add_mod p.val 8)
    rw [hp, ← mul_assoc]
    congr 1
    unfold hs
    push_cast
    rfl
  have e4 : ∀ t : Fin 8, (∑ l : Fin 192, (sg ⟨q.val % 8, by omega⟩ ⟨l.val % 8, by omega⟩ : ℝ) * T j ⟨l.val / 8, by omega⟩ ⟨8 * t.val + l.val % 8, by omega⟩)
      = ∑ k : Fin 24, ∑ r : Fin 8, (sg ⟨q.val % 8, by omega⟩ r : ℝ) * T j k ⟨8 * t.val + r.val, by omega⟩ := fun t =>
    sum_divmod 24 8 fun k r => (sg ⟨q.val % 8, by omega⟩ r : ℝ) * T j k ⟨8 * t.val + r.val, by omega⟩
  simp only [e3, e4, Finset.mul_sum]
  rw [Finset.sum_comm]

/-- And then every rotated value is finite. -/
theorem rel_not_inf (hfin : ∀ j k p, ¬ Inf (H j k * x k p)) (j : Fin 24) (q : Fin 64) : ¬ Inf (rel H x j q) := by
  choose T hT using fun j k p => not_inf (hfin j k p)
  unfold rel
  rw [inf_sum]
  rintro ⟨k, _, h⟩
  rw [row_coe (hT j k)] at h
  exact Inf.not_coe _ h

/-- Where some product is infinite so is some value of the factored rotation, -/
theorem kel_inf {j k : Fin 24} {p : Fin 64} (h : Inf (H j k * x k p)) (q : Fin 64) : Inf (kel H x j q) := by
  unfold kel
  rw [inf_whtS]
  refine ⟨⟨p.val / 8, by omega⟩, ?_⟩
  rw [inf_sum]
  refine ⟨⟨8 * k.val + p.val % 8, by omega⟩, Finset.mem_univ _, ?_⟩
  have hk : (⟨(8 * k.val + p.val % 8) / 8, by omega⟩ : Fin 24) = k := Fin.ext (by show _ / 8 = _; omega)
  have hp : (⟨8 * (p.val / 8) + (8 * k.val + p.val % 8) % 8, by omega⟩ : Fin 64) = p := Fin.ext (by show 8 * _ + _ % 8 = _; omega)
  show Inf (H j ⟨(8 * k.val + p.val % 8) / 8, _⟩ * _ * x ⟨(8 * k.val + p.val % 8) / 8, _⟩ ⟨8 * (p.val / 8) + (8 * k.val + p.val % 8) % 8, _⟩)
  rw [hk, hp, mul_assoc, mul_left_comm, mul_comm]
  refine inf_mul_of h ?_
  have := sg_ne ⟨q.val % 8, by omega⟩ ⟨(8 * k.val + p.val % 8) % 8, by omega⟩
  exact_mod_cast this

/-- and some value of the plain one: a slab that is not zero has a transform that is not zero. -/
theorem rel_inf {j k : Fin 24} {p : Fin 64} (h : Inf (H j k * x k p)) : ∃ q, Inf (rel H x j q) := by
  have key : ∃ q, Inf (H j k * ∑ p : Fin 64, ((hs q p : ℤ) : ℝ) * x k p) := by
    by_cases hx : ∃ p', Inf (x k p')
    · obtain ⟨p', hp'⟩ := hx
      have h0 : H j k ≠ 0 := fun h0 => Inf.not_coe 0 (by rw [h0, zero_mul] at h; exact h)
      refine ⟨0, ?_⟩
      rw [mul_comm]
      refine inf_mul_of ?_ h0
      rw [inf_sum]
      refine ⟨p', Finset.mem_univ _, ?_⟩
      rw [mul_comm]
      refine inf_mul_of hp' ?_
      have := hs_ne 0 p'
      exact_mod_cast this
    · have hx' : ∀ p', ¬ Inf (x k p') := fun p' hp' => hx ⟨p', hp'⟩
      choose xr hxr using fun p' => not_inf (hx' p')
      have hH : Inf (H j k) := by
        rcases (inf_mul _ _).1 h with h | h
        · exact h.1
        · exact absurd h.1 (hx' p)
      have hxp : xr p ≠ 0 := fun h0 => by
        rw [hxr, h0] at h
        exact Inf.not_coe 0 (by simpa using h)
      by_contra hn
      have hz : ∀ q, (∑ p : Fin 64, (hs q p : ℝ) * xr p) = 0 := fun q => by
        by_contra hq
        refine hn ⟨q, inf_mul_of hH ?_⟩
        simp only [hxr, ← EReal.coe_mul]
        rw [← coe_sum]
        exact_mod_cast hq
      apply hxp
      have e : ∑ q : Fin 64, (hs q p : ℝ) * (∑ p' : Fin 64, (hs q p' : ℝ) * xr p') = 64 * xr p := by
        simp only [Finset.mul_sum, ← mul_assoc]
        rw [Finset.sum_comm]
        simp only [← Finset.sum_mul]
        have : ∀ p', (∑ q : Fin 64, (hs q p : ℝ) * (hs q p' : ℝ)) = if p = p' then 64 else 0 := fun p' => by exact_mod_cast hs_orth p p'
        simp [this]
      simp only [hz, mul_zero, Finset.sum_const_zero] at e
      linarith
  obtain ⟨q, hq⟩ := key
  refine ⟨q, ?_⟩
  unfold rel
  rw [inf_sum]
  exact ⟨k, Finset.mem_univ _, hq⟩

end Rotation

end Cert.KernelIdeal.Rolled

end
-- ==== Proof.Quant.lean ====
/- One token over the extended reals: the scale and the codes. The kernel takes the greatest magnitude before the rotation's
   factor and clips before it rounds; the reference takes it after the factor and rounds before it clips. -/
module

public import proofs.«01_k».proof.Proof.Token

@[expose] public section

noncomputable section

namespace Cert.KernelIdeal.Rolled

open Idealize.ShloMosaic
open Cert.KernelIdeal

/-! ## The two constants -/

/-- A normal word of positive sign is a positive real. -/
theorem ofBits_pos (b : BitVec 32) (h0 : (b.extractLsb' 31 1 == 1#1) = false) (h1 : (b.extractLsb' 23 8).toNat ≠ 255) (h2 : (b.extractLsb' 23 8).toNat ≠ 0) :
    ∃ c : ℝ, 0 < c ∧ Ideal.ofBits .f32 b = c := by
  show ∃ c : ℝ, 0 < c ∧ Ideal.ieee 8 23 b = c
  unfold Ideal.ieee
  have e1 : (b.extractLsb' (8 + 23) 1 == 1#1) = false := h0
  have e2 : ¬ (b.extractLsb' 23 8).toNat = 2 ^ 8 - 1 := h1
  simp only [e1, if_neg e2, if_neg h2]
  refine ⟨_, ?_, rfl⟩
  refine mul_pos (mul_pos (by norm_num) ?_) (by positivity)
  exact_mod_cast Nat.add_pos_left (by positivity) _

/-- The factor is a positive real. -/
theorem invN_pos : ∃ c : ℝ, 0 < c ∧ invN = c := ofBits_pos _ (by decide) (by decide) (by decide)

/-- Seven is a positive real. -/
theorem seven_pos : ∃ c : ℝ, 0 < c ∧ seven = c := ofBits_pos _ (by decide) (by decide) (by decide)

/-- Seven is not zero. -/
theorem seven_ne : seven ≠ 0 := by
  obtain ⟨c, hc, h⟩ := seven_pos
  rw [h]
  exact_mod_cast hc.ne'

/-! ## Magnitudes -/

/-- Multiplication by a positive real keeps order. -/
theorem mul_mono {c : ℝ} (hc : 0 < c) : Monotone fun a : EReal => a * (c : EReal) :=
  fun _ _ h => mul_le_mul_of_nonneg_right h (by exact_mod_cast hc.le)

/-- A positive real factor comes out of a magnitude. -/
theorem mag_mul {c : ℝ} (hc : 0 < c) (a : EReal) : mag (a * c) = mag a * c := by
  unfold mag
  rw [← EReal.neg_mul]
  exact ((mul_mono hc).map_max (a := a) (b := -a)).symm

/-- A positive real factor comes out of a greatest element. -/
theorem iSup_mul_pos {ι : Type} [Finite ι] [Nonempty ι] {c : ℝ} (hc : 0 < c) (f : ι → EReal) : (⨆ i, f i) * (c : EReal) = ⨆ i, f i * (c : EReal) := by
  refine le_antisymm ?_ (iSup_le fun i => mul_mono hc (le_iSup f i))
  obtain ⟨i, hi⟩ := exists_eq_ciSup_of_finite (f := f)
  rw [← hi]
  exact le_iSup (fun i => f i * (c : EReal)) i

/-- The greatest magnitude of a rotated token. -/
def rmax (r : Fin 1536 → EReal) : EReal := ⨆ l, mag (r l)

/-- The reference's scale of a rotated token. -/
def refScale (r : Fin 1536 → EReal) : EReal := if rmax r = 0 then 1 else Ideal.div (rmax r) seven

/-- The reference's code of a rotated token at a channel. -/
def refCode (r : Fin 1536 → EReal) (l : Fin 1536) : EReal :=
  min (((7 : ℤ) : ℝ) : EReal) (max (((-7 : ℤ) : ℝ) : EReal) (Ideal.liftRound Ideal.roundHalfEven (Ideal.div (r l) (refScale r))))

/-- The greatest magnitude is not negative. -/
theorem rmax_nonneg (r : Fin 1536 → EReal) : 0 ≤ rmax r := (mag_nonneg (r 0)).trans (le_iSup (fun l => mag (r l)) 0)

/-- The scale is not zero. -/
theorem refScale_ne (r : Fin 1536 → EReal) : refScale r ≠ 0 := by
  unfold refScale
  split
  · exact one_ne_zero
  · rename_i h
    unfold Ideal.div
    rw [if_neg seven_ne]
    obtain ⟨c, hc, e⟩ := seven_pos
    refine mul_ne_zero h ?_
    rw [e, ← EReal.coe_inv]
    exact_mod_cast (inv_pos.2 hc).ne'

/-! ## Rounding and clipping -/

/-- Rounding moves to one of the two neighbouring integers. -/
theorem rhe_bounds (r : ℝ) : ⌊r⌋ ≤ Ideal.roundHalfEven r ∧ Ideal.roundHalfEven r ≤ ⌊r⌋ + 1 := by
  unfold Ideal.roundHalfEven
  dsimp only
  split
  · omega
  · split
    · omega
    · split <;> omega

/-- Rounding keeps order on the reals. -/
theorem rhe_mono : Monotone Ideal.roundHalfEven := by
  intro a b h
  rcases (Int.floor_le_floor h).lt_or_eq with hf | hf
  · have := (rhe_bounds a).2
    have := (rhe_bounds b).1
    omega
  · unfold Ideal.roundHalfEven
    dsimp only
    rw [hf]
    split
    · split
      · omega
      · split
        · omega
        · split <;> omega
    · rename_i h1
      split
      · rename_i h2
        rw [if_neg (by linarith), if_pos (by linarith)]
      · rename_i h2
        split
        · rename_i h3
          rw [if_neg (by linarith)]
          split
          · omega
          · exact le_refl _
        · rename_i h3
          rw [if_neg (by linarith)]
          split
          · omega
          · exact le_refl _

/-- Rounding fixes integers. -/
theorem rhe_int (n : ℤ) : Ideal.roundHalfEven (n : ℝ) = n := by
  unfold Ideal.roundHalfEven
  simp

/-- Rounding keeps order on the extended reals. -/
theorem liftRound_mono : Monotone (Ideal.liftRound Ideal.roundHalfEven) := by
  intro a b h
  induction a using EReal.rec with
  | bot => rw [Ideal.liftRound_bot]; exact bot_le
  | top => rw [top_le_iff.1 h]
  | coe x =>
    induction b using EReal.rec with
    | bot => exact absurd h (by simp)
    | top => rw [Ideal.liftRound_top]; exact le_top
    | coe y =>
      rw [Ideal.liftRound_coe, Ideal.liftRound_coe]
      have := rhe_mono (EReal.coe_le_coe_iff.1 h)
      exact_mod_cast this

/-- Rounding fixes integers among the extended reals. -/
theorem liftRound_int (n : ℤ) : Ideal.liftRound Ideal.roundHalfEven ((n : ℝ) : EReal) = ((n : ℝ) : EReal) := by
  rw [Ideal.liftRound_coe, rhe_int]

/-- Clipping at whole numbers commutes with rounding. -/
theorem round_clip (z : EReal) : Ideal.liftRound Ideal.roundHalfEven (min (((7 : ℤ) : ℝ) : EReal) (max (((-7 : ℤ) : ℝ) : EReal) z))
    = min (((7 : ℤ) : ℝ) : EReal) (max (((-7 : ℤ) : ℝ) : EReal) (Ideal.liftRound Ideal.roundHalfEven z)) := by
  rw [liftRound_mono.map_min, liftRound_mono.map_max, liftRound_int, liftRound_int]

/-- A code is a whole number between minus seven and seven. -/
theorem refCode_int (r : Fin 1536 → EReal) (l : Fin 1536) : ∃ n : ℤ, -7 ≤ n ∧ n ≤ 7 ∧ refCode r l = ((n : ℝ) : EReal) := by
  unfold refCode
  generalize Ideal.div (r l) (refScale r) = z
  induction z using EReal.rec with
  | bot => exact ⟨-7, by omega, by omega, by rw [Ideal.liftRound_bot, max_eq_left bot_le]; exact min_eq_right (by exact_mod_cast (by norm_num : (-7 : ℝ) ≤ 7))⟩
  | top => exact ⟨7, by omega, by omega, by rw [Ideal.liftRound_top, max_eq_right le_top]; exact min_eq_left le_top⟩
  | coe x =>
    refine ⟨min 7 (max (-7) (Ideal.roundHalfEven x)), by omega, by omega, ?_⟩
    rw [Ideal.liftRound_coe, ← EReal.coe_strictMono.monotone.map_max, ← EReal.coe_strictMono.monotone.map_min]
    congr 1
    push_cast
    rfl

/-- A code as a byte, by way of a word or at once. -/
theorem byte_of_code {n : ℤ} (h1 : -7 ≤ n) (h2 : n ≤ 7) :
    BitVec.setWidth 8 (Ideal.fptosi 32 ((n : ℝ) : EReal)) = Ideal.fptosi 8 ((n : ℝ) : EReal)
    ∧ (Ideal.fptosi 8 ((n : ℝ) : EReal)).toInt = n := by
  have e : ∀ w, 8 ≤ w → Ideal.fptosi w ((n : ℝ) : EReal) = BitVec.ofInt w n := by
    intro w hw
    unfold Ideal.fptosi
    congr 1
    show max _ (min _ (if 0 ≤ (n : ℝ) then ⌊(n : ℝ)⌋ else ⌈(n : ℝ)⌉)) = n
    rw [Int.floor_intCast, Int.ceil_intCast, ite_self]
    have : 2 ^ 7 ≤ 2 ^ (w - 1) := Nat.pow_le_pow_right (by omega) (by omega)
    omega
  rw [e 32 (by omega), e 8 (by omega)]
  have hn : n = -7 ∨ n = -6 ∨ n = -5 ∨ n = -4 ∨ n = -3 ∨ n = -2 ∨ n = -1 ∨ n = 0 ∨ n = 1 ∨ n = 2 ∨ n = 3 ∨ n = 4 ∨ n = 5 ∨ n = 6 ∨ n = 7 := by omega
  rcases hn with rfl | rfl | rfl | rfl | rfl | rfl | rfl | rfl | rfl | rfl | rfl | rfl | rfl | rfl | rfl <;> exact ⟨by decide, by decide⟩

/-! ## The token -/

section

variable (H : Fin 24 → Fin 24 → EReal) (x : Fin 24 → Fin 64 → EReal)

/-- The reference's rotated token, along its channels. -/
def refRow (l : Fin 1536) : EReal := rel H x ⟨l.val / 64, by omega⟩ ⟨l.val % 64, by omega⟩ * invN

/-- The kernel's greatest magnitude, slab by slab. -/
def kmax : EReal := amax fun t r => kel H x ⟨r.val / 8, by omega⟩ ⟨8 * t.val + r.val % 8, by omega⟩

/-- The greatest magnitude, times the factor, is the greatest magnitude of the reference's rotated token. -/
theorem kmax_eq : kmax H x * invN = rmax (refRow H x) := by
  obtain ⟨c, hc, e⟩ := invN_pos
  have e1 : kmax H x * invN = ⨆ t : Fin 8, ⨆ r : Fin 192, mag (kel H x ⟨r.val / 8, by omega⟩ ⟨8 * t.val + r.val % 8, by omega⟩ * c) := by
    unfold kmax amax
    rw [e, iSup_mul_pos hc]
    congr 1
    funext t
    rw [iSup_mul_pos hc]
    congr 1
    funext r
    rw [mag_mul hc]
  by_cases h : ∀ j k p, ¬ Inf (H j k * x k p)
  · rw [e1]
    simp only [kel_eq_rel h]
    unfold rmax refRow
    rw [e]
    refine le_antisymm (iSup_le fun t => iSup_le fun r => ?_) (iSup_le fun l => ?_)
    · have := le_iSup (fun l : Fin 1536 => mag (rel H x ⟨l.val / 64, by omega⟩ ⟨l.val % 64, by omega⟩ * c)) ⟨64 * (r.val / 8) + 8 * t.val + r.val % 8, by omega⟩
      have h1 : (⟨(64 * (r.val / 8) + 8 * t.val + r.val % 8) / 64, by omega⟩ : Fin 24) = ⟨r.val / 8, by omega⟩ := Fin.ext (by show _ / 64 = _ / 8; omega)
      have h2 : (⟨(64 * (r.val / 8) + 8 * t.val + r.val % 8) % 64, by omega⟩ : Fin 64) = ⟨8 * t.val + r.val % 8, by omega⟩ := Fin.ext (by show _ % 64 = 8 * _ + _ % 8; omega)
      simp only [h1, h2] at this
      exact this
    · have := le_iSup_of_le (f := fun t : Fin 8 => ⨆ r : Fin 192, mag (rel H x ⟨r.val / 8, by omega⟩ ⟨8 * t.val + r.val % 8, by omega⟩ * c)) ⟨l.val % 64 / 8, by omega⟩
        (le_iSup (fun r : Fin 192 => mag (rel H x ⟨r.val / 8, by omega⟩ ⟨8 * (l.val % 64 / 8) + r.val % 8, by omega⟩ * c)) ⟨8 * (l.val / 64) + l.val % 8, by omega⟩)
      have h1 : (⟨(8 * (l.val / 64) + l.val % 8) / 8, by omega⟩ : Fin 24) = ⟨l.val / 64, by omega⟩ := Fin.ext (by show _ / 8 = _ / 64; omega)
      have h2 : (⟨8 * (l.val % 64 / 8) + (8 * (l.val / 64) + l.val % 8) % 8, by omega⟩ : Fin 64) = ⟨l.val % 64, by omega⟩ := Fin.ext (by show 8 * _ + _ % 8 = _ % 64; omega)
      simp only [h1, h2] at this
      exact this
  · push Not at h
    obtain ⟨j, k, p, h⟩ := h
    have hcne : (c : EReal) ≠ 0 := by exact_mod_cast hc.ne'
    have l1 : kmax H x * invN = ⊤ := by
      rw [e1, eq_top_iff]
      refine le_iSup_of_le 0 (le_iSup_of_le ⟨8 * j.val, by omega⟩ (le_of_eq ?_))
      have h1 : (⟨8 * j.val / 8, by omega⟩ : Fin 24) = j := Fin.ext (by show _ / 8 = _; omega)
      simp only [h1]
      exact (mag_inf (inf_mul_of (kel_inf h _) hcne)).symm
    obtain ⟨q, hq⟩ := rel_inf h
    have l2 : rmax (refRow H x) = ⊤ := by
      rw [eq_top_iff]
      refine le_iSup_of_le ⟨64 * j.val + q.val, by omega⟩ (le_of_eq ?_)
      have h1 : (⟨(64 * j.val + q.val) / 64, by omega⟩ : Fin 24) = j := Fin.ext (by show _ / 64 = _; omega)
      have h2 : (⟨(64 * j.val + q.val) % 64, by omega⟩ : Fin 64) = q := Fin.ext (by show _ % 64 = _; omega)
      unfold refRow
      simp only [h1, h2, e]
      exact (mag_inf (inf_mul_of hq hcne)).symm
    rw [l1, l2]

/-- The scales agree. -/
theorem scale_eq : scaleOf (kmax H x) = refScale (refRow H x) := by
  unfold scaleOf refScale
  rw [kmax_eq]

/-- The codes agree: where a product is infinite the scale is, and every code is zero. -/
theorem code_eq (l : Fin 1536) : codeOf (kel H x ⟨l.val / 64, by omega⟩ ⟨l.val % 64, by omega⟩) (scaleOf (kmax H x)) = refCode (refRow H x) l := by
  unfold codeOf refCode
  rw [round_clip, scale_eq]
  congr 3
  unfold Ideal.div
  rw [if_neg (refScale_ne _), if_neg (refScale_ne _)]
  by_cases h : ∀ j k p, ¬ Inf (H j k * x k p)
  · rw [kel_eq_rel h]
    unfold refRow
    rw [mul_assoc]
  · push Not at h
    obtain ⟨j, k, p, h⟩ := h
    obtain ⟨c, hc, e⟩ := invN_pos
    have hcne : (c : EReal) ≠ 0 := by exact_mod_cast hc.ne'
    obtain ⟨q, hq⟩ := rel_inf h
    have l2 : rmax (refRow H x) = ⊤ := by
      rw [eq_top_iff]
      refine le_iSup_of_le ⟨64 * j.val + q.val, by omega⟩ (le_of_eq ?_)
      have h1 : (⟨(64 * j.val + q.val) / 64, by omega⟩ : Fin 24) = j := Fin.ext (by show _ / 64 = _; omega)
      have h2 : (⟨(64 * j.val + q.val) % 64, by omega⟩ : Fin 64) = q := Fin.ext (by show _ % 64 = _; omega)
      unfold refRow
      simp only [h1, h2, e]
      exact (mag_inf (inf_mul_of hq hcne)).symm
    have l3 : refScale (refRow H x) = ⊤ := by
      unfold refScale
      rw [l2, if_neg (by simp)]
      obtain ⟨d, hd, e7⟩ := seven_pos
      unfold Ideal.div
      rw [if_neg seven_ne, e7, ← EReal.coe_inv]
      exact EReal.top_mul_coe_of_pos (inv_pos.2 hd)
    rw [l3, EReal.inv_top, mul_zero, mul_zero, mul_zero]

end

end Cert.KernelIdeal.Rolled

end
-- ==== Proof.Spec.lean ====
/- What the three results hold, as functions of the four arguments at plain indices: the values both programs are shown to leave. -/
module

public import proofs.«01_k».proof.Proof.Quant

@[expose] public section

noncomputable section

namespace Cert.KernelIdeal.Rolled

open Idealize.ShloMosaic
open Cert.KernelIdeal

/-- The token of sequence `b` at position `s`, as twenty-four groups of sixty-four channels. -/
def token (x : FVec Ideal S8x2048x1536 .bf16) (b : Fin 8) (s : Fin 2048) : Fin 24 → Fin 64 → EReal :=
  fun k p => x (ix3 b s ⟨64 * k.val + p.val, by omega⟩)

/-- The Hadamard matrix by row and column. -/
def hadAt (had : FVec Ideal S24x24 .f32) : Fin 24 → Fin 24 → EReal := fun j k => had (ix2 j k)

/-- The rotated token. -/
def rotTok (x : FVec Ideal S8x2048x1536 .bf16) (had : FVec Ideal S24x24 .f32) (b : Fin 8) (s : Fin 2048) : Fin 1536 → EReal :=
  refRow (hadAt had) (token x b s)

/-- The scales. -/
def scaleRes (x : FVec Ideal S8x2048x1536 .bf16) (had : FVec Ideal S24x24 .f32) : FVec Ideal S8x2048 .f32 :=
  fun i => refScale (rotTok x had (i 0) (i 1))

/-- The codes as bytes. -/
def codesRes (x : FVec Ideal S8x2048x1536 .bf16) (had : FVec Ideal S24x24 .f32) : IVec S8x2048x1536 8 :=
  fun i => Ideal.fptosi 8 (refCode (rotTok x had (i 0) (i 1)) (i 2))

/-- The projection. -/
def yRes (x : FVec Ideal S8x2048x1536 .bf16) (had : FVec Ideal S24x24 .f32) (wp : IVec S576x768 8) (ws : FVec Ideal S576x12 .f32) :
    FVec Ideal S8x2048x576 .bf16 :=
  fun i => (∑ l : Fin 1536, wAll wp ws (ix2 (i 2) l) * refCode (rotTok x had (i 0) (i 1)) l) * refScale (rotTok x had (i 0) (i 1))

/-! ## A block of the kernel's tokens -/

/-- A token of a block. -/
def blockTok (x : FVec Ideal S512x1536 .bf16) (k : Fin 512) : Fin 24 → Fin 64 → EReal := fun j p => x (ix2 k ⟨64 * j.val + p.val, by omega⟩)

variable (x : FVec Ideal S512x1536 .bf16) (had : FVec Ideal S24x24 .f32)

/-- An entry of a rotated slab of a block is the kernel's rotated token. -/
theorem rotated_eq (t : Fin 8) (r : Fin 192) (k : Fin 512) : rotated x (rotVal (F := Ideal) had) t r k
    = kel (hadAt had) (blockTok x k) ⟨r.val / 8, by omega⟩ ⟨8 * t.val + r.val % 8, by omega⟩ := by
  unfold rotated kel
  have h1 : (⟨(8 * t.val + r.val % 8) % 8, by omega⟩ : Fin 8) = ⟨r.val % 8, by omega⟩ := Fin.ext (by dsimp only; omega)
  have h2 : (⟨(8 * t.val + r.val % 8) / 8, by omega⟩ : Fin 8) = t := Fin.ext (by dsimp only; omega)
  simp only [h1, h2]
  congr 1
  funext t
  refine Finset.sum_congr rfl fun l _ => ?_
  rw [rotVal_apply]
  have h3 : chan t l = ⟨64 * (l.val / 8) + (8 * t.val + l.val % 8), by omega⟩ := Fin.ext (by unfold chan; dsimp only; omega)
  rw [h3]
  rfl

/-- The scale of a token of a block. -/
theorem scAt_eq (k : Fin 512) : scAt x (rotVal (F := Ideal) had) k = refScale (refRow (hadAt had) (blockTok x k)) := by
  unfold scAt
  simp only [rotated_eq]
  exact scale_eq _ _

/-- A code of a token of a block. -/
theorem codeAt_eq (k : Fin 512) (l : Fin 1536) : codeAt x (rotVal (F := Ideal) had) k l = refCode (refRow (hadAt had) (blockTok x k)) l := by
  unfold codeAt
  rw [scAt_eq, rotated_eq, ← scale_eq, ← code_eq]
  have h1 : (⟨(8 * (l.val / 64) + l.val % 8) / 8, by omega⟩ : Fin 24) = ⟨l.val / 64, by omega⟩ := Fin.ext (by dsimp only; omega)
  have h2 : (⟨8 * (l.val % 64 / 8) + (8 * (l.val / 64) + l.val % 8) % 8, by omega⟩ : Fin 64) = ⟨l.val % 64, by omega⟩ := Fin.ext (by dsimp only; omega)
  simp only [h1, h2]

/-- The codes of a block, as bytes at once. -/
theorem codesOut_eq (k : Fin 512) (l : Fin 1536) : codesOut x (rotVal (F := Ideal) had) (ix2 k l)
    = Ideal.fptosi 8 (refCode (refRow (hadAt had) (blockTok x k)) l) := by
  obtain ⟨n, h1, h2, h⟩ := refCode_int (refRow (hadAt had) (blockTok x k)) l
  show BitVec.setWidth 8 (Ideal.fptosi 32 (codeAt x (rotVal (F := Ideal) had) k l)) = _
  rw [codeAt_eq, h]
  exact (byte_of_code h1 h2).1

end Cert.KernelIdeal.Rolled

end
-- ==== Proof.KernelValue.lean ====
/- The kernel's three results after its run, as functions of its arguments. -/
module

public import proofs.«01_k».proof.Proof.Launch
public import proofs.«01_k».proof.Proof.Spec
public import Idealize.ShloMosaic.Lib.Pipeline.ValueKit
public import Idealize.ShloMosaic.Lib.Pointwise

@[expose] public section

set_option maxRecDepth 16384

noncomputable section

namespace Cert.KernelIdeal.Launch

open Idealize.ShloMosaic Idealize.ShloMosaic.TcCoe Idealize.SL.Sem
open Cert.KernelIdeal Cert.KernelIdeal.Gen Cert.KernelIdeal.Rolled

variable (m : (ℓ : Loc nD τ sig) → Buf (Elt Ideal) ℓ) (c : Dev nD)

/-- Where each window's block lies at a grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0, 0] :=
  (by decide +kernel : ∀ t : Fin grid0.N, _)

/-- The activations, as launched. -/
abbrev arg0 : FVec Ideal S8x2048x1536 .bf16 := m ((c : Thread nD τ).loc main_arg0)
/-- The Hadamard matrix, as launched. -/
abbrev arg1 : FVec Ideal S24x24 .f32 := m ((c : Thread nD τ).loc main_arg1)
/-- The packed weights, as launched. -/
abbrev arg2 : IVec S576x768 8 := m ((c : Thread nD τ).loc main_arg2)
/-- The weight scales, as launched. -/
abbrev arg3 : FVec Ideal S576x12 .f32 := m ((c : Thread nD τ).loc main_arg3)

/-- The activations as the region finds them: a row per token. -/
theorem V_main_v0_apply (n : Fin 16384) (l : Fin 1536) :
    (V m c main_v0 : FVec Ideal S16384x1536 .bf16) (ix2 n l) = arg0 m c (ix3 ⟨n.val / 2048, by omega⟩ ⟨n.val % 2048, by omega⟩ l) := by
  have e : (V m c main_v0 : FVec Ideal S16384x1536 .bf16) = shapeCast S16384x1536 (arg0 m c) shapeCasts_S8x2048x1536_S16384x1536 := by
    show StableHlo.after hostOps0 _ (Proc.devRef .tc main_v0) = _
    after_results
    rfl
  rw [e]
  pointwise

/-- A block of activations at a token and a channel. -/
theorem xAt_apply (t : Fin cfg0.N) (k : Fin 512) (l : Fin 1536) : xAt m c t (ix2 k l)
    = arg0 m c (ix3 ⟨(512 * t.val + k.val) / 2048, by have : t.val < 32 := t.isLt; omega⟩ ⟨(512 * t.val + k.val) % 2048, by omega⟩ l) := by
  have ht : t.val < 32 := t.isLt
  rw [← V_main_v0_apply m c ⟨512 * t.val + k.val, by omega⟩ l]
  blk_ext [iblk, V, (idx t).1]

/-- The block of the Hadamard matrix is the whole matrix. -/
theorem had_eq : iblk m c 1 first = arg1 m c := by
  funext y
  blk_ext [iblk, V, (idx first).2.1]

/-- The block of packed weights is all of them. -/
theorem wp_eq : iblk m c 2 first = arg2 m c := by
  funext y
  blk_ext [iblk, V, (idx first).2.2.1]

/-- The block of weight scales is all of them. -/
theorem ws_eq : iblk m c 3 first = arg3 m c := by
  funext y
  blk_ext [iblk, V, (idx first).2.2.2.1]

/-- The carried rotation, from the matrix. -/
theorem rotC_eq : rotC m c = rotVal (F := Ideal) (arg1 m c) := by
  unfold rotC
  rw [had_eq]

/-- The carried weights, from the packed weights and their scales. -/
theorem wC_eq : wC m c = wAll (arg2 m c) (arg3 m c) := by
  unfold wC
  rw [wp_eq, ws_eq]

/-- The token of a row of the region's arrays. -/
theorem blockTok_eq (t : Fin cfg0.N) (k : Fin 512) (n : Fin 16384) (h : n.val = 512 * t.val + k.val) : blockTok (xAt m c t) k
    = token (arg0 m c) ⟨n.val / 2048, by omega⟩ ⟨n.val % 2048, by omega⟩ := by
  funext j p
  unfold blockTok token
  rw [xAt_apply]
  simp only [h]

/-- The rotated token of a row of the region's arrays. -/
def rowTok (n : Fin 16384) : Fin 1536 → EReal := rotTok (arg0 m c) (arg1 m c) ⟨n.val / 2048, by omega⟩ ⟨n.val % 2048, by omega⟩

/-- The projection at a row of the region's array. -/
def yRow (n : Fin 16384) (o : Fin 576) : EReal :=
  (∑ l : Fin 1536, wAll (arg2 m c) (arg3 m c) (ix2 o l) * refCode (rowTok m c n) l) * refScale (rowTok m c n)

/-- An entry of a block of the projection. -/
theorem y_block (t : Fin cfg0.N) (k : Fin 512) (o : Fin 576) (n : Fin 16384) (h : n.val = 512 * t.val + k.val) :
    yOut (xAt m c t) (rotC m c) (wC m c) (ix2 k o) = yRow m c n o := by
  rw [rotC_eq, wC_eq]
  show (∑ l : Fin 1536, wAll (arg2 m c) (arg3 m c) (ix2 o l) * codeAt (xAt m c t) (rotVal (F := Ideal) (arg1 m c)) k l)
    * scAt (xAt m c t) (rotVal (F := Ideal) (arg1 m c)) k = _
  simp only [codeAt_eq, scAt_eq]
  rw [blockTok_eq m c t k n h]
  rfl

/-- An entry of a block of codes. -/
theorem codes_block (t : Fin cfg0.N) (k : Fin 512) (l : Fin 1536) (n : Fin 16384) (h : n.val = 512 * t.val + k.val) :
    codesOut (xAt m c t) (rotC m c) (ix2 k l) = Ideal.fptosi 8 (refCode (rowTok m c n) l) := by
  rw [rotC_eq, codesOut_eq, blockTok_eq m c t k n h]
  rfl

/-- An entry of a block of scales. -/
theorem scale_block (t : Fin cfg0.N) (a b : Fin 1) (k : Fin 512) (n : Fin 16384) (h : n.val = 512 * t.val + k.val) :
    scaleOut (xAt m c t) (rotC m c) (ix3 a b k) = refScale (rowTok m c n) := by
  rw [rotC_eq]
  show scAt (xAt m c t) (rotVal (F := Ideal) (arg1 m c)) k = _
  rw [scAt_eq, blockTok_eq m c t k n h]
  rfl

/-- The projection's array when the region ends. -/
theorem arr4 : (dats m 0 c).arrAt 4 cfg0.N = fun i : S16384x576.Idx => yRow m c (i 0) (i 1) := by
  refine (dats m 0 c).arrAt_eq_of_covers 4 _ (by decide +kernel) fun t hf y => ?_
  blk_simp
  rw [after0_4]
  have ht : t.val < 32 := t.isLt
  have hy : (y 0).val < 512 := (y 0).isLt
  have e : (win0_4.blk t).view.emb y = (ix2 ⟨512 * t.val + (y 0).val, by omega⟩ (y 1) : S16384x576.Idx) := by
    blk_ext [(idx t).2.2.2.2.1]
  refine Eq.trans ?_ (congrArg (fun i : S16384x576.Idx => yRow m c (i 0) (i 1)) e.symm)
  exact (congrArg _ (eq_ix2 y)).trans (y_block m c t (y 0) (y 1) ⟨512 * t.val + (y 0).val, by omega⟩ rfl)

/-- The codes' array when the region ends. -/
theorem arr5 : (dats m 0 c).arrAt 5 cfg0.N = fun i : S16384x1536.Idx => Ideal.fptosi 8 (refCode (rowTok m c (i 0)) (i 1)) := by
  refine (dats m 0 c).arrAt_eq_of_covers 5 _ (by decide +kernel) fun t hf y => ?_
  blk_simp
  rw [after0_5]
  have ht : t.val < 32 := t.isLt
  have hy : (y 0).val < 512 := (y 0).isLt
  have e : (win0_5.blk t).view.emb y = (ix2 ⟨512 * t.val + (y 0).val, by omega⟩ (y 1) : S16384x1536.Idx) := by
    blk_ext [(idx t).2.2.2.2.2.1]
  refine Eq.trans ?_ (congrArg (fun i : S16384x1536.Idx => Ideal.fptosi 8 (refCode (rowTok m c (i 0)) (i 1))) e.symm)
  exact (congrArg _ (eq_ix2 y)).trans (codes_block m c t (y 0) (y 1) ⟨512 * t.val + (y 0).val, by omega⟩ rfl)

/-- The scale at a block and a token of it. -/
def scRow (t : Fin 32) (k : Fin 512) : EReal := refScale (rowTok m c ⟨512 * t.val + k.val, by omega⟩)

/-- The scales' array when the region ends. -/
theorem arr6 : (dats m 0 c).arrAt 6 cfg0.N = fun i : S32x1x512.Idx => scRow m c (i 0) (i 2) := by
  refine (dats m 0 c).arrAt_eq_of_covers 6 _ (by decide +kernel) fun t hf y => ?_
  blk_simp
  rw [after0_6]
  have ht : t.val < 32 := t.isLt
  have hy : (y 2).val < 512 := (y 2).isLt
  have h0 : (y 0).val < 1 := (y 0).isLt
  have e : (win0_6.blk t).view.emb y = (ix3 ⟨t.val, ht⟩ (y 1) (y 2) : S32x1x512.Idx) := by
    blk_ext [(idx t).2.2.2.2.2.2]
  refine Eq.trans ?_ (congrArg (fun i : S32x1x512.Idx => scRow m c (i 0) (i 2)) e.symm)
  exact (congrArg _ (eq_ix3 y)).trans (scale_block m c t (y 0) (y 1) (y 2) ⟨512 * t.val + (y 2).val, by omega⟩ rfl)

/-! ## The results -/

/-- The row of a sequence and a position is its token. -/
theorem row_eq (b : Fin 8) (s : Fin 2048) (n : Fin 16384) (h : n.val = b.val * 2048 + s.val) : rowTok m c n = rotTok (arg0 m c) (arg1 m c) b s := by
  unfold rowTok
  have h1 : (⟨n.val / 2048, by omega⟩ : Fin 8) = b := Fin.ext (by dsimp only; omega)
  have h2 : (⟨n.val % 2048, by omega⟩ : Fin 2048) = s := Fin.ext (by dsimp only; omega)
  rw [h1, h2]

/-- The reshape of the projection, at an index. -/
theorem cast_y (v : FVec Ideal S16384x576 .bf16) (b : Fin 8) (s : Fin 2048) (o : Fin 576) :
    shapeCast S8x2048x576 v shapeCasts_S16384x576_S8x2048x576 (ix3 b s o) = v (ix2 ⟨b.val * 2048 + s.val, by omega⟩ o) := by
  pointwise

/-- The reshape of the codes, at an index. -/
theorem cast_codes (v : IVec S16384x1536 8) (b : Fin 8) (s : Fin 2048) (l : Fin 1536) :
    shapeCast S8x2048x1536 v shapeCasts_S16384x1536_S8x2048x1536 (ix3 b s l) = v (ix2 ⟨b.val * 2048 + s.val, by omega⟩ l) := by
  pointwise

/-- The reshape of the scales, at an index. -/
theorem cast_scale (v : FVec Ideal S32x1x512 .f32) (b : Fin 8) (s : Fin 2048) :
    shapeCast S8x2048 v shapeCasts_S32x1x512_S8x2048 (ix2 b s)
      = v (ix3 ⟨b.val * 4 + s.val / 512, by omega⟩ 0 ⟨s.val % 512, by omega⟩) := by
  pointwise

/-- The projection, reshaped. -/
theorem res_y : shapeCast S8x2048x576 ((dats m 0 c).arrAt 4 cfg0.N : FVec Ideal S16384x576 .bf16) shapeCasts_S16384x576_S8x2048x576
    = yRes (arg0 m c) (arg1 m c) (arg2 m c) (arg3 m c) := by
  funext i
  obtain ⟨b, s, o, rfl⟩ : ∃ (b : Fin 8) (s : Fin 2048) (o : Fin 576), i = ix3 b s o := ⟨i 0, i 1, i 2, eq_ix3 i⟩
  rw [cast_y, arr4]
  show yRow m c ⟨b.val * 2048 + s.val, by omega⟩ o = _
  unfold yRow
  rw [row_eq m c b s _ rfl]
  rfl

/-- The codes, reshaped. -/
theorem res_codes : shapeCast S8x2048x1536 ((dats m 0 c).arrAt 5 cfg0.N : IVec S16384x1536 8) shapeCasts_S16384x1536_S8x2048x1536
    = codesRes (arg0 m c) (arg1 m c) := by
  funext i
  obtain ⟨b, s, o, rfl⟩ : ∃ (b : Fin 8) (s : Fin 2048) (o : Fin 1536), i = ix3 b s o := ⟨i 0, i 1, i 2, eq_ix3 i⟩
  rw [cast_codes, arr5]
  show Ideal.fptosi 8 (refCode (rowTok m c ⟨b.val * 2048 + s.val, by omega⟩) o) = _
  rw [row_eq m c b s _ rfl]
  rfl

/-- The scales, reshaped. -/
theorem res_scale : shapeCast S8x2048 ((dats m 0 c).arrAt 6 cfg0.N : FVec Ideal S32x1x512 .f32) shapeCasts_S32x1x512_S8x2048
    = scaleRes (arg0 m c) (arg1 m c) := by
  funext i
  obtain ⟨b, s, rfl⟩ : ∃ (b : Fin 8) (s : Fin 2048), i = ix2 b s := ⟨i 0, i 1, eq_ix2 i⟩
  rw [cast_scale, arr6]
  show scRow m c ⟨b.val * 4 + s.val / 512, by omega⟩ ⟨s.val % 512, by omega⟩ = _
  unfold scRow
  rw [row_eq m c b s _ (by dsimp only; omega)]
  rfl

/-- The first result after the host code that follows the region. -/
theorem tail_y : Pipeline.afterTail₀ cfgs (dats m) 0 (V0 m) [hostOps1] c main_v2 = yRes (arg0 m c) (arg1 m c) (arg2 m c) (arg3 m c) := by
  rw [← res_y]
  unfold Pipeline.afterTail₀
  show StableHlo.after hostOps1 _ (Proc.devRef .tc main_v2) = _
  after_results
  exact congrArg (fun v : FVec Ideal S16384x576 .bf16 => shapeCast S8x2048x576 v shapeCasts_S16384x576_S8x2048x576) (Pipeline.withArrays_arr spec0 (by decide) c (V0 m c) _ 4)

/-- The second result after the host code that follows the region. -/
theorem tail_codes : Pipeline.afterTail₀ cfgs (dats m) 0 (V0 m) [hostOps1] c main_v3 = codesRes (arg0 m c) (arg1 m c) := by
  rw [← res_codes]
  unfold Pipeline.afterTail₀
  show StableHlo.after hostOps1 _ (Proc.devRef .tc main_v3) = _
  after_results
  exact congrArg (fun v : IVec S16384x1536 8 => shapeCast S8x2048x1536 v shapeCasts_S16384x1536_S8x2048x1536) (Pipeline.withArrays_arr spec0 (by decide) c (V0 m c) _ 5)

/-- The third result after the host code that follows the region. -/
theorem tail_scale : Pipeline.afterTail₀ cfgs (dats m) 0 (V0 m) [hostOps1] c main_v4 = scaleRes (arg0 m c) (arg1 m c) := by
  rw [← res_scale]
  unfold Pipeline.afterTail₀
  show StableHlo.after hostOps1 _ (Proc.devRef .tc main_v4) = _
  after_results
  exact congrArg (fun v : FVec Ideal S32x1x512 .f32 => shapeCast S8x2048 v shapeCasts_S32x1x512_S8x2048) (Pipeline.withArrays_arr spec0 (by decide) c (V0 m c) _ 6)

/-- The run of the kernel: each result as a function of the arguments, the arguments unchanged. -/
theorem run (ρ : Dev nD → PrngReg) : θ_run defs (onTc (τ := τ) (main (F := Ideal))) ⟨m, fun _ => 0, ρ⟩ (fun r => ∀ c : Dev nD,
    r.2.mem ((c : Thread nD τ).loc main_v2) = yRes (arg0 m c) (arg1 m c) (arg2 m c) (arg3 m c)
    ∧ r.2.mem ((c : Thread nD τ).loc main_v3) = codesRes (arg0 m c) (arg1 m c)
    ∧ r.2.mem ((c : Thread nD τ).loc main_v4) = scaleRes (arg0 m c) (arg1 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  run_from run_main m ρ
  · exact tail_y m c
  · exact tail_codes m c
  · exact tail_scale m c
  · exact W_main_arg0 m (dats m) c

end Cert.KernelIdeal.Launch

end
-- ==== Proof.RefHost.lean ====
/- The reference's rotated activations at an index. -/
module

public import proofs.«01_k».proof.Proof.Gen.ReferenceIdeal.Value
public import proofs.«01_k».proof.Proof.Spec
public import Idealize.ShloMosaic.Lib.StableHlo.Run
public import Idealize.ShloMosaic.Lib.Pointwise

@[expose] public section

set_option maxRecDepth 16384

noncomputable section

namespace Cert.ReferenceIdeal.Host

open Idealize.ShloMosaic Idealize.ShloMosaic.TcCoe
open Cert.ReferenceIdeal Cert.ReferenceIdeal.Gen
open Cert.KernelIdeal.Rolled (hs)

/-- The signs of the sixty-four-point transform. -/
def signs : FVec Ideal S64x64 .f32 :=
  sitofp .f32 (subi (broadcastInDim S64x64 ![] bcast_S_S64x64 (constantI S_ 32 1#32))
    (muli (broadcastInDim S64x64 ![] bcast_S_S64x64 (constantI S_ 32 2#32))
      (andi (ctpop (andi (iotaInDim S64x64 32 0) (iotaInDim S64x64 32 1))) (broadcastInDim S64x64 ![] bcast_S_S64x64 (constantI S_ 32 1#32)))))

/-- The sign computed on words is the sign of the sixty-four-point transform. -/
theorem word_sign : ∀ q p : Fin 64, (IntOp.subi 1#32 (IntOp.muli 2#32 (IntOp.andi (IntOp.ctpop (IntOp.andi (BitVec.ofNat 32 q.val) (BitVec.ofNat 32 p.val))) 1#32))).toInt = hs q p := by
  decide +kernel

/-- An entry of the matrix of signs. -/
theorem signs_apply (q p : Fin 64) : signs (ix2 q p) = ((hs q p : ℤ) : ℝ) := by
  rw [← word_sign]
  pointwise [signs]
  rfl

/-- The transform of every group of sixty-four channels. -/
def groups (x : FVec Ideal S8x2048x1536 .bf16) : FVec Ideal S8x2048x24x64 .f32 :=
  Host.dotGeneral dot_S8x2048x24x64_S64x64_S8x2048x24x64_3_1_012_0_n_n (some .fp32)
    (shapeCast S8x2048x24x64 (extf .f32 x bitsLt_bf16_f32) shapeCasts_S8x2048x1536_S8x2048x24x64) signs

/-- An entry of a transformed group. -/
theorem groups_apply (x : FVec Ideal S8x2048x1536 .bf16) (b : Fin 8) (s : Fin 2048) (k : Fin 24) (q : Fin 64) :
    groups x (ix4 b s k q) = ∑ p : Fin 64, x (ix3 b s ⟨k.val * 64 + p.val, by omega⟩) * ((hs q p : ℤ) : ℝ) := by
  simp only [← signs_apply]
  pointwise [groups]

/-- The rotated activations, and then the factor. -/
def rotated (x : FVec Ideal S8x2048x1536 .bf16) (had : FVec Ideal S24x24 .f32) : FVec Ideal S8x2048x1536 .f32 :=
  shapeCast S8x2048x1536 (mulf (transpose S8x2048x24x64 [0, 1, 3, 2]
    (Host.dotGeneral dot_S8x2048x24x64_S24x24_S8x2048x64x24_2_1_013_0_n_n (some .fp32) (groups x) had) transposes_S8x2048x64x24_S8x2048x24x64_0_1_3_2)
    (broadcastInDim S8x2048x24x64 ![] bcast_S_S8x2048x24x64 (constant S_ .f32 0x3CD105EC#32))) shapeCasts_S8x2048x24x64_S8x2048x1536

/-- An entry of the rotated activations. -/
theorem rotated_apply (x : FVec Ideal S8x2048x1536 .bf16) (had : FVec Ideal S24x24 .f32) (b : Fin 8) (s : Fin 2048) (l : Fin 1536) :
    rotated x had (ix3 b s l) = (∑ k : Fin 24, groups x (ix4 b s k ⟨l.val % 64, by omega⟩) * had (ix2 ⟨l.val / 64, by omega⟩ k)) * Cert.KernelIdeal.Rolled.invN := by
  pointwise [rotated]
  rfl

variable (m : (ℓ : Loc nD τ sig) → Buf (Elt Ideal) ℓ) (c : Dev nD)

/-- What the region finds in its first array: the rotated activations. -/
theorem V_main_v18_eq : (V m c main_v18 : FVec Ideal S8x2048x1536 .f32)
    = rotated (m ((c : Thread nD τ).loc main_arg0)) (m ((c : Thread nD τ).loc main_arg1)) := by
  show StableHlo.after hostOps0 _ (Proc.devRef .tc main_v18) = _
  after_results
  rfl

end Cert.ReferenceIdeal.Host

end
-- ==== Proof.RefRow.lean ====
/- The reference's rotated activations are its rotated tokens. -/
module

public import proofs.«01_k».proof.Proof.RefHost

@[expose] public section

noncomputable section

namespace Cert.ReferenceIdeal.Host

open Idealize.ShloMosaic
open Cert.ReferenceIdeal
open Cert.KernelIdeal.Rolled (hs rotTok)

/-- A channel of a rotated token. -/
theorem rotated_row (x : FVec Ideal S8x2048x1536 .bf16) (had : FVec Ideal S24x24 .f32) (b : Fin 8) (s : Fin 2048) (l : Fin 1536) :
    rotated x had (ix3 b s l) = rotTok x had b s l := by
  rw [rotated_apply]
  unfold Cert.KernelIdeal.Rolled.rotTok Cert.KernelIdeal.Rolled.refRow Cert.KernelIdeal.Rolled.rel
  refine congrArg (fun z : EReal => z * Cert.KernelIdeal.Rolled.invN) (Finset.sum_congr rfl fun k _ => ?_)
  rw [groups_apply, mul_comm]
  refine congrArg (fun z : EReal => had (ix2 _ k) * z) (Finset.sum_congr rfl fun p _ => ?_)
  rw [mul_comm]
  have e : (⟨k.val * 64 + p.val, by omega⟩ : Fin 1536) = ⟨64 * k.val + p.val, by omega⟩ := Fin.ext (by dsimp only; omega)
  rw [e]
  rfl

end Cert.ReferenceIdeal.Host

end
-- ==== Proof.RefPay.lean ====
/- The reference's quantiser and projection at an index, from the rotated activations. -/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Pay

open Idealize.ShloMosaic
open Cert.ReferenceIdeal Cert.ReferenceIdeal.Gen
open Cert.KernelIdeal.Rolled (refScale refCode rmax mag nib seven refCode_int byte_of_code ofBits_neg_inf)

/-- A rotated token. -/
def rowOf (r : FVec Ideal S8x2048x1536 .f32) (b : Fin 8) (s : Fin 2048) : Fin 1536 → EReal := fun l => r (ix3 b s l)

/-- The rotated activations, loaded. -/
theorem pay2_eq (r : FVec Ideal S8x2048x1536 .f32) : k0_pay2 (F := Ideal) r = r := shapeCast_self r _

/-- The greatest element of a row, as a fold. -/
theorem max_apply (v : FVec Ideal S8x2048x1536 .f32) (h h2 h3) (b : Fin 8) (s : Fin 2048) :
    multiReduction (F := Ideal) .maximumf [2] S8x2048 v 0xFF800000#32 h h2 h3 (ix2 b s)
      = Finset.fold max (Ideal.ofBits .f32 0xFF800000#32) (fun l => v (ix3 b s l)) Finset.univ := by
  pointwise

/-- The greatest magnitude of a row. -/
theorem max_eq (r : FVec Ideal S8x2048x1536 .f32) (h h2 h3) (b : Fin 8) (s : Fin 2048) :
    multiReduction (F := Ideal) .maximumf [2] S8x2048 (absf r) 0xFF800000#32 h h2 h3 (ix2 b s) = rmax (rowOf r b s) := by
  rw [max_apply]
  refine eq_of_forall_ge_iff fun z => ?_
  rw [Finset.fold_max_le, ofBits_neg_inf]
  unfold rmax
  rw [iSup_le_iff]
  exact ⟨fun hh l => hh.2 l (Finset.mem_univ l), fun hh => ⟨bot_le, fun l _ => hh l⟩⟩

/-- One scale from the greatest magnitudes. -/
theorem select_apply (v : FVec Ideal S8x2048 .f32) (b : Fin 8) (s : Fin 2048) :
    select (cmpf .oeq v (broadcast S8x2048 (Scalar.ofBits (F := Ideal) .f32 0x00000000#32)))
      (broadcast S8x2048 (Scalar.ofBits (F := Ideal) .f32 0x3F800000#32)) (divf v (broadcast S8x2048 (Scalar.ofBits (F := Ideal) .f32 0x40E00000#32))) (ix2 b s)
      = if v (ix2 b s) = 0 then (1 : EReal) else Ideal.div (v (ix2 b s)) seven := by
  pointwise
  rfl

/-- The scale of a token. -/
theorem scale_apply (r : FVec Ideal S8x2048x1536 .f32) (b : Fin 8) (s : Fin 2048) : k0_pay3 (F := Ideal) r (ix2 b s) = refScale (rowOf r b s) := by
  unfold k0_pay3
  rw [pay2_eq]
  exact (select_apply _ b s).trans (congrArg (fun z : EReal => if z = 0 then (1 : EReal) else Ideal.div z seven) (max_eq r _ _ _ b s))

/-- A scale, spread along its token. -/
theorem spread_apply (v : FVec Ideal S8x2048 .f32) (b : Fin 8) (s : Fin 2048) (l : Fin 1536) :
    broadcastTo S8x2048x1536 (shapeCast S8x2048x1 v shapeCasts_S8x2048_S8x2048x1) broadcasts_S8x2048x1_S8x2048x1536 (ix3 b s l) = v (ix2 b s) := by
  pointwise

/-- Rounding to nearest and clipping, at an index. -/
theorem clip_apply (r v : FVec Ideal S8x2048x1536 .f32) (i : S8x2048x1536.Idx) :
    fptosi 8 (minimumf (broadcast S8x2048x1536 (Scalar.sitofp (F := Ideal) .f32 7#32))
      (maximumf (broadcast S8x2048x1536 (Scalar.sitofp (F := Ideal) .f32 4294967289#32)) (roundeven (divf r v)))) i
      = Ideal.fptosi 8 (min (((7#32).toInt : ℝ) : EReal) (max (((4294967289#32).toInt : ℝ) : EReal) (Ideal.liftRound Ideal.roundHalfEven (Ideal.div (r i) (v i))))) := by
  rfl

/-- The upper bound of the codes. -/
theorem seven_int : (((7#32).toInt : ℝ) : EReal) = (((7 : ℤ) : ℝ) : EReal) := congrArg (fun n : ℤ => ((n : ℝ) : EReal)) (by decide)

/-- The lower bound of the codes. -/
theorem neg_seven_int : (((4294967289#32).toInt : ℝ) : EReal) = (((-7 : ℤ) : ℝ) : EReal) := congrArg (fun n : ℤ => ((n : ℝ) : EReal)) (by decide)

/-- A code as a byte. -/
theorem codes_apply (r : FVec Ideal S8x2048x1536 .f32) (b : Fin 8) (s : Fin 2048) (l : Fin 1536) : k0_pay4 (F := Ideal) r (ix3 b s l) = Ideal.fptosi 8 (refCode (rowOf r b s) l) := by
  unfold k0_pay4
  rw [pay2_eq]
  refine (clip_apply r _ (ix3 b s l)).trans ?_
  rw [spread_apply, scale_apply, seven_int, neg_seven_int]
  unfold refCode
  rfl

/-- A code read back from its byte. -/
theorem code_back (r : FVec Ideal S8x2048x1536 .f32) (b : Fin 8) (s : Fin 2048) (l : Fin 1536) : k0_pay5 (F := Ideal) r (ix3 b s l) = refCode (rowOf r b s) l := by
  obtain ⟨n, h1, h2, h⟩ := refCode_int (rowOf r b s) l
  show (((k0_pay4 (F := Ideal) r (ix3 b s l)).toInt : ℝ) : EReal) = _
  rw [codes_apply, h, (byte_of_code h1 h2).2]

/-- The lower half of the channels, at an index. -/
theorem lo_slice (v : FVec Ideal S8x2048x1536 .bf16) (b : Fin 8) (s : Fin 2048) (l : Fin 768) :
    extractStridedSlice S8x2048x768 ![0, 0, 0] v slices_S8x2048x1536_o0_0_0_S8x2048x768 (ix3 b s l) = v (ix3 b s ⟨l.val, by omega⟩) := by
  pointwise

/-- The upper half of the channels, at an index. -/
theorem hi_slice (v : FVec Ideal S8x2048x1536 .bf16) (b : Fin 8) (s : Fin 2048) (l : Fin 768) :
    extractStridedSlice S8x2048x768 ![0, 0, 768] v slices_S8x2048x1536_o0_0_768_S8x2048x768 (ix3 b s l) = v (ix3 b s ⟨768 + l.val, by omega⟩) := by
  pointwise

/-- A code of the lower half. -/
theorem lo_apply (r : FVec Ideal S8x2048x1536 .f32) (b : Fin 8) (s : Fin 2048) (l : Fin 768) : k0_pay6 (F := Ideal) r (ix3 b s l) = refCode (rowOf r b s) ⟨l.val, by omega⟩ :=
  (lo_slice _ b s l).trans (code_back r b s _)

/-- A code of the upper half. -/
theorem hi_apply (r : FVec Ideal S8x2048x1536 .f32) (b : Fin 8) (s : Fin 2048) (l : Fin 768) : k0_pay7 (F := Ideal) r (ix3 b s l) = refCode (rowOf r b s) ⟨768 + l.val, by omega⟩ :=
  (hi_slice _ b s l).trans (code_back r b s _)

/-- A low nibble of the packed weights. -/
theorem wlo_apply (w : IVec S576x768 8) (o : Fin 576) (l : Fin 768) :
    k0_pay9 (F := Ideal) w (ix2 o l) = nib (IntOp.andi (BitVec.setWidth 32 (w (ix2 o l))) 15#32) := by
  rfl

/-- A byte of the packed weights, shifted to its high nibble. -/
theorem whi_apply (w : IVec S576x768 8) (o : Fin 576) (l : Fin 768) :
    k0_pay10 (F := Ideal) w (ix2 o l) = IntOp.shrsi .vector (BitVec.setWidth 32 (w (ix2 o l))) 4#32 := by
  rfl

/-- An entry of the projection: two half sums, times the scale. -/
theorem y_apply (sc : FVec Ideal S8x2048 .f32) (lo hi : FVec Ideal S8x2048x768 .bf16) (wl : FVec Ideal S576x768 .bf16) (wh : IVec S576x768 32)
    (ws : FVec Ideal S576x12 .f32) (b : Fin 8) (s : Fin 2048) (o : Fin 576) : k0_pay1 (F := Ideal) sc lo hi wl wh ws (ix3 b s o)
    = ((∑ l : Fin 768, lo (ix3 b s l) * (wl (ix2 o l) * ws (ix2 o ⟨l.val / 128, by omega⟩)))
      + ∑ l : Fin 768, hi (ix3 b s l) * (nib (IntOp.andi (wh (ix2 o l)) 15#32) * ws (ix2 o ⟨6 + l.val / 128, by omega⟩))) * sc (ix2 b s) := by
  pointwise [k0_pay1]
  rfl

end Cert.ReferenceIdeal.Pay

end
-- ==== Proof.RefProj.lean ====
/- The reference's projection at an index, from the rotated tokens: its two halves are one sum over all channels. -/
module

public import proofs.«01_k».proof.Proof.RefPay

@[expose] public section

noncomputable section

namespace Cert.ReferenceIdeal.Pay

open Idealize.ShloMosaic
open Cert.ReferenceIdeal Cert.ReferenceIdeal.Gen
open Cert.KernelIdeal.Rolled (refScale refCode nib wAll)

/-- A weight of the low nibbles. -/
theorem wAll_lo (wp : IVec S576x768 8) (ws : FVec Ideal S576x12 .f32) (o : Fin 576) (l : Fin 768) : wAll wp ws (ix2 o ⟨l.val, by omega⟩)
    = nib (IntOp.andi (BitVec.setWidth 32 (wp (ix2 o l))) 15#32) * ws (ix2 o ⟨l.val / 128, by omega⟩) := by
  have h : l.val < 768 := l.isLt
  unfold Cert.KernelIdeal.Rolled.wAll
  refine (congrArg (fun z : EReal => z * _) (dif_pos h)).trans rfl

/-- A weight of the high nibbles. -/
theorem wAll_hi (wp : IVec S576x768 8) (ws : FVec Ideal S576x12 .f32) (o : Fin 576) (l : Fin 768) : wAll wp ws (ix2 o ⟨768 + l.val, by omega⟩)
    = nib (IntOp.andi (IntOp.shrsi .vector (BitVec.setWidth 32 (wp (ix2 o l))) 4#32) 15#32) * ws (ix2 o ⟨6 + l.val / 128, by omega⟩) := by
  have h : ¬ (768 + l.val < 768) := by omega
  have e : (⟨768 + l.val - 768, by omega⟩ : Fin 768) = l := Fin.ext (by dsimp only; omega)
  have e' : (⟨(768 + l.val) / 128, by omega⟩ : Fin 12) = ⟨6 + l.val / 128, by omega⟩ := Fin.ext (by dsimp only; omega)
  unfold Cert.KernelIdeal.Rolled.wAll
  refine (congrArg (fun z : EReal => z * _) (dif_neg h)).trans ?_
  show nib (IntOp.andi (IntOp.shrsi .vector (BitVec.setWidth 32 (wp (ix2 o ⟨768 + l.val - 768, by omega⟩))) 4#32) 15#32)
    * ws (ix2 o ⟨(768 + l.val) / 128, by omega⟩) = _
  rw [e, e']

/-- A sum over the channels is the sum over the lower half and the sum over the upper half. -/
theorem sum_halves (f : Fin 1536 → EReal) : ∑ l : Fin 1536, f l = (∑ l : Fin 768, f ⟨l.val, by omega⟩) + ∑ l : Fin 768, f ⟨768 + l.val, by omega⟩ :=
  Fin.sum_univ_add (a := 768) (b := 768) f

/-- The projection of a token. -/
theorem proj_apply (r : FVec Ideal S8x2048x1536 .f32) (wp : IVec S576x768 8) (ws : FVec Ideal S576x12 .f32) (b : Fin 8) (s : Fin 2048) (o : Fin 576) :
    k0_pay1 (F := Ideal) (k0_pay3 r) (k0_pay6 r) (k0_pay7 r) (k0_pay9 wp) (k0_pay10 (F := Ideal) wp) ws (ix3 b s o)
      = (∑ l : Fin 1536, wAll wp ws (ix2 o l) * refCode (rowOf r b s) l) * refScale (rowOf r b s) := by
  rw [y_apply, scale_apply, sum_halves]
  refine congrArg (fun z : EReal => z * refScale (rowOf r b s)) ?_
  refine congrArg₂ (fun a b : EReal => a + b) (Finset.sum_congr rfl fun l _ => ?_) (Finset.sum_congr rfl fun l _ => ?_)
  · rw [wAll_lo, lo_apply, wlo_apply, mul_comm]
  · rw [wAll_hi, hi_apply, whi_apply, mul_comm]

end Cert.ReferenceIdeal.Pay

end
-- ==== Proof.RefValue.lean ====
/- The reference's three results after its run, as functions of its arguments. -/
module

public import proofs.«01_k».proof.Proof.RefRow
public import proofs.«01_k».proof.Proof.RefProj
public import Idealize.ShloMosaic.Lib.Pipeline.ValueKit
public import Idealize.ShloMosaic.Lib.Pointwise

@[expose] public section

set_option maxRecDepth 16384

noncomputable section

namespace Cert.ReferenceIdeal.Results

open Idealize.ShloMosaic Idealize.ShloMosaic.TcCoe Idealize.SL.Sem
open Cert.ReferenceIdeal Cert.ReferenceIdeal.Gen
open Cert.ReferenceIdeal.Host (rotated)
open Cert.ReferenceIdeal.Pay (rowOf)
open Cert.KernelIdeal.Rolled (refScale refCode wAll rotTok yRes codesRes scaleRes)

variable (m : (ℓ : Loc nD τ sig) → Buf (Elt Ideal) ℓ) (c : Dev nD)

/-- Every window's block lies at the origin. -/
theorem idx : ∀ t : Fin cfg0.N, win0_0.index t = ![0, 0, 0] ∧ win0_1.index t = ![0, 0] ∧ win0_2.index t = ![0, 0] ∧ win0_3.index t = ![0, 0, 0]
    ∧ win0_4.index t = ![0, 0, 0] ∧ win0_5.index t = ![0, 0] :=
  (by decide +kernel : ∀ t : Fin grid0.N, _)

/-- The activations, as launched. -/
abbrev arg0 : FVec Ideal S8x2048x1536 .bf16 := m ((c : Thread nD τ).loc main_arg0)
/-- The Hadamard matrix, as launched. -/
abbrev arg1 : FVec Ideal S24x24 .f32 := m ((c : Thread nD τ).loc main_arg1)
/-- The packed weights, as launched. -/
abbrev arg2 : IVec S576x768 8 := m ((c : Thread nD τ).loc main_arg2)
/-- The weight scales, as launched. -/
abbrev arg3 : FVec Ideal S576x12 .f32 := m ((c : Thread nD τ).loc main_arg3)

/-- The rotated activations. -/
abbrev rot : FVec Ideal S8x2048x1536 .f32 := rotated (arg0 m c) (arg1 m c)

/-- A row of the rotated activations is the rotated token. -/
theorem row_eq (b : Fin 8) (s : Fin 2048) : rowOf (rot m c) b s = rotTok (arg0 m c) (arg1 m c) b s :=
  funext fun l => Host.rotated_row (arg0 m c) (arg1 m c) b s l

/-- The block of rotated activations is all of them. -/
theorem r_eq (t : Fin cfg0.N) : iblk m c 0 t = rot m c := by
  refine Eq.trans ?_ (Host.V_main_v18_eq m c)
  funext y
  blk_ext [iblk, V, (idx t).1]

/-- The block of packed weights is all of them. -/
theorem wp_eq (t : Fin cfg0.N) : iblk m c 1 t = arg2 m c := by
  funext y
  blk_ext [iblk, V, (idx t).2.1]

/-- The block of weight scales is all of them. -/
theorem ws_eq (t : Fin cfg0.N) : iblk m c 2 t = arg3 m c := by
  funext y
  blk_ext [iblk, V, (idx t).2.2.1]

/-- An entry of the projection that the body writes. -/
theorem y_point (b : Fin 8) (s : Fin 2048) (o : Fin 576) : k0_pay1 (F := Ideal) (k0_pay3 (rot m c)) (k0_pay6 (rot m c)) (k0_pay7 (rot m c))
    (k0_pay9 (arg2 m c)) (k0_pay10 (F := Ideal) (arg2 m c)) (arg3 m c) (ix3 b s o) = yRes (arg0 m c) (arg1 m c) (arg2 m c) (arg3 m c) (ix3 b s o) := by
  rw [Pay.proj_apply, row_eq]
  rfl

/-- A code that the body writes. -/
theorem codes_point (b : Fin 8) (s : Fin 2048) (l : Fin 1536) : k0_pay4 (F := Ideal) (rot m c) (ix3 b s l) = codesRes (arg0 m c) (arg1 m c) (ix3 b s l) := by
  rw [Pay.codes_apply, row_eq]
  rfl

/-- A scale that the body writes. -/
theorem scale_point (b : Fin 8) (s : Fin 2048) : k0_pay3 (F := Ideal) (rot m c) (ix2 b s) = scaleRes (arg0 m c) (arg1 m c) (ix2 b s) := by
  rw [Pay.scale_apply, row_eq]
  rfl

/-- The projection's array when the region ends. -/
theorem arr3 : (dats m 0 c).arrAt 3 cfg0.N = yRes (arg0 m c) (arg1 m c) (arg2 m c) (arg3 m c) := by
  refine (dats m 0 c).arrAt_eq_of_covers 3 _ (by decide +kernel) fun t hf y => ?_
  blk_simp
  rw [after0_3, r_eq, wp_eq, ws_eq]
  frame_out
  have e : (win0_3.blk t).view.emb y = (ix3 (y 0) (y 1) (y 2) : S8x2048x576.Idx) := by
    blk_ext [(idx t).2.2.2.1]
  refine Eq.trans ?_ (congrArg (yRes (arg0 m c) (arg1 m c) (arg2 m c) (arg3 m c)) e.symm)
  exact (congrArg _ (eq_ix3 y)).trans (y_point m c (y 0) (y 1) (y 2))

/-- The codes' array when the region ends. -/
theorem arr4 : (dats m 0 c).arrAt 4 cfg0.N = codesRes (arg0 m c) (arg1 m c) := by
  refine (dats m 0 c).arrAt_eq_of_covers 4 _ (by decide +kernel) fun t hf y => ?_
  blk_simp
  rw [after0_4, r_eq]
  frame_out
  have e : (win0_4.blk t).view.emb y = (ix3 (y 0) (y 1) (y 2) : S8x2048x1536.Idx) := by
    blk_ext [(idx t).2.2.2.2.1]
  refine Eq.trans ?_ (congrArg (codesRes (arg0 m c) (arg1 m c)) e.symm)
  exact (congrArg _ (eq_ix3 y)).trans (codes_point m c (y 0) (y 1) (y 2))

/-- The scales' array when the region ends. -/
theorem arr5 : (dats m 0 c).arrAt 5 cfg0.N = scaleRes (arg0 m c) (arg1 m c) := by
  refine (dats m 0 c).arrAt_eq_of_covers 5 _ (by decide +kernel) fun t hf y => ?_
  blk_simp
  rw [after0_5, r_eq]
  frame_out
  have e : (win0_5.blk t).view.emb y = (ix2 (y 0) (y 1) : S8x2048.Idx) := by
    blk_ext [(idx t).2.2.2.2.2]
  refine Eq.trans ?_ (congrArg (scaleRes (arg0 m c) (arg1 m c)) e.symm)
  exact (congrArg _ (eq_ix2 y)).trans (scale_point m c (y 0) (y 1))

/-- The run of the reference: each result as a function of the arguments, the arguments unchanged. -/
theorem run (ρ : Dev nD → PrngReg) : θ_run defs (onTc (τ := τ) (main (F := Ideal))) ⟨m, fun _ => 0, ρ⟩ (fun r => ∀ c : Dev nD,
    r.2.mem ((c : Thread nD τ).loc main_v19_0) = yRes (arg0 m c) (arg1 m c) (arg2 m c) (arg3 m c)
    ∧ r.2.mem ((c : Thread nD τ).loc main_v19_1) = codesRes (arg0 m c) (arg1 m c)
    ∧ r.2.mem ((c : Thread nD τ).loc main_v19_2) = scaleRes (arg0 m c) (arg1 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => by
    obtain ⟨h0, h1, h2, h3⟩ := h c
    exact ⟨h0.trans (arr3 m c), h1.trans (arr4 m c), h2.trans (arr5 m c), h3⟩) (Value.run_blocks m ρ)

end Cert.ReferenceIdeal.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel
open Cert.KernelIdeal.Rolled (yRes codesRes scaleRes)

/-- From arguments that agree, the kernel and the reference leave the same results. -/
theorem same_results : Cert.algebraic_KernelIdeal_ReferenceIdeal (hKernelIdeal := Cert.KernelIdeal.Gen.facts) (hReferenceIdeal := Cert.ReferenceIdeal.Gen.facts) := by
  intro m g m' g' _ hagree
  refine ⟨fun c => yRes (KernelIdeal.Launch.arg0 m c) (KernelIdeal.Launch.arg1 m c) (KernelIdeal.Launch.arg2 m c) (KernelIdeal.Launch.arg3 m c),
    fun c => codesRes (KernelIdeal.Launch.arg0 m c) (KernelIdeal.Launch.arg1 m c),
    fun c => scaleRes (KernelIdeal.Launch.arg0 m c) (KernelIdeal.Launch.arg1 m c), KernelIdeal.Launch.run m g,
    (θ_run _ _ _).mono (fun r h c => ?_) (ReferenceIdeal.Results.run m' g')⟩
  obtain ⟨e0, e1, e2, e3⟩ := hagree c
  obtain ⟨h0, h1, h2, hargs⟩ := h c
  have a0 : ReferenceIdeal.Results.arg0 m' c = KernelIdeal.Launch.arg0 m c := e0
  have a1 : ReferenceIdeal.Results.arg1 m' c = KernelIdeal.Launch.arg1 m c := e1
  have a2 : ReferenceIdeal.Results.arg2 m' c = KernelIdeal.Launch.arg2 m c := e2
  have a3 : ReferenceIdeal.Results.arg3 m' c = KernelIdeal.Launch.arg3 m c := e3
  refine ⟨h0.trans ?_, h1.trans ?_, h2.trans ?_, hargs⟩
  · rw [a0, a1, a2, a3]
  · rw [a0, a1]
  · rw [a0, a1]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  same_results⟩

end Cert.Proof

end
